-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x2048x14x14 : Shape := ⟨4, ![1, 2048, 14, 14]⟩
abbrev S512x5 : Shape := ⟨2, ![512, 5]⟩
abbrev S2048x196 : Shape := ⟨2, ![2048, 196]⟩
abbrev S196x2048 : Shape := ⟨2, ![196, 2048]⟩
abbrev S512x4 : Shape := ⟨2, ![512, 4]⟩
abbrev S_ : Shape := ⟨0, ![]⟩
abbrev S512x1 : Shape := ⟨2, ![512, 1]⟩
abbrev S512 : Shape := ⟨1, ![512]⟩
abbrev S2048 : Shape := ⟨1, ![2048]⟩
abbrev S512x56x2048 : Shape := ⟨3, ![512, 56, 2048]⟩
abbrev S16x56x2048 : Shape := ⟨3, ![16, 56, 2048]⟩
abbrev S56x196 : Shape := ⟨2, ![56, 196]⟩
abbrev S56x1 : Shape := ⟨2, ![56, 1]⟩
abbrev S1 : Shape := ⟨1, ![1]⟩
abbrev S896x196 : Shape := ⟨2, ![896, 196]⟩
abbrev S896x2048 : Shape := ⟨2, ![896, 2048]⟩
abbrev S512x7x8x2048 : Shape := ⟨4, ![512, 7, 8, 2048]⟩
abbrev S512x7x7x2048 : Shape := ⟨4, ![512, 7, 7, 2048]⟩
abbrev S512x2048x7x7 : Shape := ⟨4, ![512, 2048, 7, 7]⟩

abbrev nBuf : Space → Nat
  | .hbm => 62
  | .vmem => 3
  | .smem => 1
  | _ => 0

abbrev bufTy : (tb : Table) → Fin (tcTables nBuf tb) → BufTy
  | .hbm, ⟨0, _⟩ => ⟨S1x2048x14x14, .f32⟩
  | .hbm, ⟨1, _⟩ => ⟨S512x5, .f32⟩
  | .hbm, ⟨2, _⟩ => ⟨S2048x196, .f32⟩
  | .hbm, ⟨3, _⟩ => ⟨S196x2048, .f32⟩
  | .hbm, ⟨4, _⟩ => ⟨S512x4, .f32⟩
  | .hbm, ⟨5, _⟩ => ⟨S_, .f32⟩
  | .hbm, ⟨6, _⟩ => ⟨S512x4, .f32⟩
  | .hbm, ⟨7, _⟩ => ⟨S512x4, .f32⟩
  | .hbm, ⟨8, _⟩ => ⟨S512x1, .f32⟩
  | .hbm, ⟨9, _⟩ => ⟨S512, .f32⟩
  | .hbm, ⟨10, _⟩ => ⟨S512, .f32⟩
  | .hbm, ⟨11, _⟩ => ⟨S_, .i32⟩
  | .hbm, ⟨12, _⟩ => ⟨S_, .i32⟩
  | .hbm, ⟨13, _⟩ => ⟨S_, .f32⟩
  | .hbm, ⟨14, _⟩ => ⟨S512, .f32⟩
  | .hbm, ⟨15, _⟩ => ⟨S512, .f32⟩
  | .hbm, ⟨16, _⟩ => ⟨S_, .f32⟩
  | .hbm, ⟨17, _⟩ => ⟨S512, .f32⟩
  | .hbm, ⟨18, _⟩ => ⟨S512, .f32⟩
  | .hbm, ⟨19, _⟩ => ⟨S512x1, .f32⟩
  | .hbm, ⟨20, _⟩ => ⟨S512, .f32⟩
  | .hbm, ⟨21, _⟩ => ⟨S512, .f32⟩
  | .hbm, ⟨22, _⟩ => ⟨S_, .i32⟩
  | .hbm, ⟨23, _⟩ => ⟨S_, .i32⟩
  | .hbm, ⟨24, _⟩ => ⟨S_, .f32⟩
  | .hbm, ⟨25, _⟩ => ⟨S512, .f32⟩
  | .hbm, ⟨26, _⟩ => ⟨S512, .f32⟩
  | .hbm, ⟨27, _⟩ => ⟨S_, .f32⟩
  | .hbm, ⟨28, _⟩ => ⟨S512, .f32⟩
  | .hbm, ⟨29, _⟩ => ⟨S512, .f32⟩
  | .hbm, ⟨30, _⟩ => ⟨S512x1, .f32⟩
  | .hbm, ⟨31, _⟩ => ⟨S512, .f32⟩
  | .hbm, ⟨32, _⟩ => ⟨S512, .f32⟩
  | .hbm, ⟨33, _⟩ => ⟨S_, .i32⟩
  | .hbm, ⟨34, _⟩ => ⟨S_, .i32⟩
  | .hbm, ⟨35, _⟩ => ⟨S_, .f32⟩
  | .hbm, ⟨36, _⟩ => ⟨S512, .f32⟩
  | .hbm, ⟨37, _⟩ => ⟨S512, .f32⟩
  | .hbm, ⟨38, _⟩ => ⟨S_, .f32⟩
  | .hbm, ⟨39, _⟩ => ⟨S512, .f32⟩
  | .hbm, ⟨40, _⟩ => ⟨S512, .f32⟩
  | .hbm, ⟨41, _⟩ => ⟨S512x1, .f32⟩
  | .hbm, ⟨42, _⟩ => ⟨S512, .f32⟩
  | .hbm, ⟨43, _⟩ => ⟨S512, .f32⟩
  | .hbm, ⟨44, _⟩ => ⟨S_, .i32⟩
  | .hbm, ⟨45, _⟩ => ⟨S_, .i32⟩
  | .hbm, ⟨46, _⟩ => ⟨S_, .f32⟩
  | .hbm, ⟨47, _⟩ => ⟨S512, .f32⟩
  | .hbm, ⟨48, _⟩ => ⟨S512, .f32⟩
  | .hbm, ⟨49, _⟩ => ⟨S_, .f32⟩
  | .hbm, ⟨50, _⟩ => ⟨S512, .f32⟩
  | .hbm, ⟨51, _⟩ => ⟨S512, .f32⟩
  | .hbm, ⟨52, _⟩ => ⟨S512x1, .f32⟩
  | .hbm, ⟨53, _⟩ => ⟨S512x1, .f32⟩
  | .hbm, ⟨54, _⟩ => ⟨S512x1, .f32⟩
  | .hbm, ⟨55, _⟩ => ⟨S512x1, .f32⟩
  | .hbm, ⟨56, _⟩ => ⟨S512x4, .f32⟩
  | .hbm, ⟨57, _⟩ => ⟨S512x4, .i32⟩
  | .hbm, ⟨58, _⟩ => ⟨S512x56x2048, .f32⟩
  | .hbm, ⟨59, _⟩ => ⟨S512x7x8x2048, .f32⟩
  | .hbm, ⟨60, _⟩ => ⟨S512x7x7x2048, .f32⟩
  | .hbm, ⟨61, _⟩ => ⟨S512x2048x7x7, .f32⟩
  | .local _ .vmem, ⟨0, _⟩ => ⟨S196x2048, .f32⟩
  | .local _ .vmem, ⟨1, _⟩ => ⟨S16x56x2048, .f32⟩
  | .local _ .vmem, ⟨2, _⟩ => ⟨S16x56x2048, .f32⟩
  | .local _ .smem, ⟨0, _⟩ => ⟨S2048, .i32⟩
  | _, _ => ⟨S1x2048x14x14, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_c_0 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_1 : Ref sig .tc := ⟨.hbm, 22, rfl⟩
abbrev main_c_2 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_c_3 : Ref sig .tc := ⟨.hbm, 33, rfl⟩
abbrev main_c_4 : Ref sig .tc := ⟨.hbm, 34, rfl⟩
abbrev main_call2_v0 : Ref sig .tc := ⟨.hbm, 35, rfl⟩
abbrev main_call2_v1 : Ref sig .tc := ⟨.hbm, 36, rfl⟩
abbrev main_call2_v2 : Ref sig .tc := ⟨.hbm, 37, rfl⟩
abbrev main_call2_v3 : Ref sig .tc := ⟨.hbm, 38, rfl⟩
abbrev main_call2_v4 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_c_5 : Ref sig .tc := ⟨.hbm, 44, rfl⟩
abbrev main_c_6 : Ref sig .tc := ⟨.hbm, 45, rfl⟩
abbrev main_call3_v0 : Ref sig .tc := ⟨.hbm, 46, rfl⟩
abbrev main_call3_v1 : Ref sig .tc := ⟨.hbm, 47, rfl⟩
abbrev main_call3_v2 : Ref sig .tc := ⟨.hbm, 48, rfl⟩
abbrev main_call3_v3 : Ref sig .tc := ⟨.hbm, 49, rfl⟩
abbrev main_call3_v4 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v27 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_sem0_0 : DmaSem sig := 0
abbrev cc0_sem1_0 : DmaSem sig := 1
abbrev cc0_sem1_1 : DmaSem sig := 2

abbrev nD : Nat := 1
abbrev τ : Topo := Topo.v7x

variable {F : FTy → Type} [FloatOps F]

abbrev grid0 : Pipeline.Grid := ⟨1, ![32], ![false]⟩

abbrev pre0 : Pipeline.Prefetch sig := ⟨1, ![main_v27.idx], fun | 0 => main_v27.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c0_i32_22 : BitVec 32) (c0_i32_23 : BitVec 32) : Fin 1 → Nat :=
  let c4_i32 : BitVec 32 := 4#32
  let c16_i32 : BitVec 32 := 16#32
  let arg0 : BitVec 32 := BitVec.ofNat 32 (i 0).val
  let v92 : BitVec 32 := Scalar.muli c16_i32 arg0
  let v93 : BitVec 32 := Scalar.addi v92 c0_i32_22
  let v94 : BitVec 32 := Scalar.muli c4_i32 v93
  let v95 : BitVec 32 := Scalar.addi v94 c0_i32_23
  let v96 : Index := Scalar.indexCast v95
  ![v96.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S196x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S16x56x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S1x2048x14x14 : Shape := ⟨4, ![1, 2048, 14, 14]⟩
abbrev S512x5 : Shape := ⟨2, ![512, 5]⟩
abbrev S512x4 : Shape := ⟨2, ![512, 4]⟩
abbrev S_ : Shape := ⟨0, ![]⟩
abbrev S512x1 : Shape := ⟨2, ![512, 1]⟩
abbrev S512 : Shape := ⟨1, ![512]⟩
abbrev S7 : Shape := ⟨1, ![7]⟩
abbrev S1x7 : Shape := ⟨2, ![1, 7]⟩
abbrev S512x7 : Shape := ⟨2, ![512, 7]⟩
abbrev S14 : Shape := ⟨1, ![14]⟩
abbrev S1x14 : Shape := ⟨2, ![1, 14]⟩
abbrev S512x7x1 : Shape := ⟨3, ![512, 7, 1]⟩
abbrev S1x1x14 : Shape := ⟨3, ![1, 1, 14]⟩
abbrev S512x7x14 : Shape := ⟨3, ![512, 7, 14]⟩
abbrev S1x2048x14x512x7 : Shape := ⟨5, ![1, 2048, 14, 512, 7]⟩
abbrev S512x1x2048x7x7 : Shape := ⟨5, ![512, 1, 2048, 7, 7]⟩
abbrev S512x2048x7x7 : Shape := ⟨4, ![512, 2048, 7, 7]⟩

abbrev nBuf : Space → Nat
  | .hbm => 223
  | .vmem => 0
  | .smem => 0
  | _ => 0

abbrev hbmTy0_0 (i : Nat) : BufTy := match i % 128 with
  | 0 => ⟨S1x2048x14x14, .f32⟩
  | 1 => ⟨S512x5, .f32⟩
  | 2 => ⟨S512x4, .f32⟩
  | 3 => ⟨S_, .f32⟩
  | 4 => ⟨S512x4, .f32⟩
  | 5 => ⟨S512x4, .f32⟩
  | 6 => ⟨S512x1, .f32⟩
  | 7 => ⟨S512, .f32⟩
  | 8 => ⟨S512, .f32⟩
  | 9 => ⟨S_, .i32⟩
  | 10 => ⟨S_, .i32⟩
  | 11 => ⟨S_, .f32⟩
  | 12 => ⟨S512, .f32⟩
  | 13 => ⟨S512, .f32⟩
  | 14 => ⟨S_, .f32⟩
  | 15 => ⟨S512, .f32⟩
  | 16 => ⟨S512, .f32⟩
  | 17 => ⟨S512, .i32⟩
  | 18 => ⟨S512x1, .f32⟩
  | 19 => ⟨S512, .f32⟩
  | 20 => ⟨S512, .f32⟩
  | 21 => ⟨S_, .i32⟩
  | 22 => ⟨S_, .i32⟩
  | 23 => ⟨S_, .f32⟩
  | 24 => ⟨S512, .f32⟩
  | 25 => ⟨S512, .f32⟩
  | 26 => ⟨S_, .f32⟩
  | 27 => ⟨S512, .f32⟩
  | 28 => ⟨S512, .f32⟩
  | 29 => ⟨S512, .i32⟩
  | 30 => ⟨S512x1, .f32⟩
  | 31 => ⟨S512, .f32⟩
  | 32 => ⟨S512, .f32⟩
  | 33 => ⟨S_, .i32⟩
  | 34 => ⟨S_, .i32⟩
  | 35 => ⟨S_, .f32⟩
  | 36 => ⟨S512, .f32⟩
  | 37 => ⟨S512, .f32⟩
  | 38 => ⟨S_, .f32⟩
  | 39 => ⟨S512, .f32⟩
  | 40 => ⟨S512, .f32⟩
  | 41 => ⟨S512, .i32⟩
  | 42 => ⟨S512x1, .f32⟩
  | 43 => ⟨S512, .f32⟩
  | 44 => ⟨S512, .f32⟩
  | 45 => ⟨S_, .i32⟩
  | 46 => ⟨S_, .i32⟩
  | 47 => ⟨S_, .f32⟩
  | 48 => ⟨S512, .f32⟩
  | 49 => ⟨S512, .f32⟩
  | 50 => ⟨S_, .f32⟩
  | 51 => ⟨S512, .f32⟩
  | 52 => ⟨S512, .f32⟩
  | 53 => ⟨S512, .i32⟩
  | 54 => ⟨S7, .i32⟩
  | 55 => ⟨S512, .i32⟩
  | 56 => ⟨S1x7, .i32⟩
  | 57 => ⟨S512x1, .i32⟩
  | 58 => ⟨S512x7, .i32⟩
  | 59 => ⟨S512x7, .i32⟩
  | 60 => ⟨S512x7, .i32⟩
  | 61 => ⟨S_, .i32⟩
  | 62 => ⟨S_, .i32⟩
  | 63 => ⟨S512x7, .i32⟩
  | 64 => ⟨S512x7, .i32⟩
  | 65 => ⟨S512x7, .i32⟩
  | 66 => ⟨S_, .i32⟩
  | 67 => ⟨S512x7, .i32⟩
  | 68 => ⟨S512x7, .i1⟩
  | 69 => ⟨S512x7, .i32⟩
  | 70 => ⟨S512x7, .i32⟩
  | 71 => ⟨S_, .i32⟩
  | 72 => ⟨S512x7, .i32⟩
  | 73 => ⟨S512x7, .i1⟩
  | 74 => ⟨S512x7, .i1⟩
  | 75 => ⟨S_, .i32⟩
  | 76 => ⟨S512x7, .i32⟩
  | 77 => ⟨S512x7, .i32⟩
  | 78 => ⟨S512x7, .i32⟩
  | 79 => ⟨S512x1, .i32⟩
  | 80 => ⟨S512x7, .i32⟩
  | 81 => ⟨S512x7, .i32⟩
  | 82 => ⟨S_, .i32⟩
  | 83 => ⟨S7, .i32⟩
  | 84 => ⟨S7, .i32⟩
  | 85 => ⟨S1x7, .i32⟩
  | 86 => ⟨S512x1, .i32⟩
  | 87 => ⟨S512x7, .i32⟩
  | 88 => ⟨S512x7, .i32⟩
  | 89 => ⟨S512x7, .i32⟩
  | 90 => ⟨S_, .i32⟩
  | 91 => ⟨S512x7, .i32⟩
  | 92 => ⟨S512x7, .i32⟩
  | 93 => ⟨S_, .i32⟩
  | 94 => ⟨S_, .i32⟩
  | 95 => ⟨S512x7, .i32⟩
  | 96 => ⟨S512x7, .i32⟩
  | 97 => ⟨S512x7, .i32⟩
  | 98 => ⟨S_, .i32⟩
  | 99 => ⟨S512x7, .i32⟩
  | 100 => ⟨S512x7, .i1⟩
  | 101 => ⟨S512x7, .i32⟩
  | 102 => ⟨S512x7, .i32⟩
  | 103 => ⟨S_, .i32⟩
  | 104 => ⟨S512x7, .i32⟩
  | 105 => ⟨S512x7, .i1⟩
  | 106 => ⟨S512x7, .i1⟩
  | 107 => ⟨S_, .i32⟩
  | 108 => ⟨S512x7, .i32⟩
  | 109 => ⟨S512x7, .i32⟩
  | 110 => ⟨S512x7, .i32⟩
  | 111 => ⟨S512x1, .i32⟩
  | 112 => ⟨S512x7, .i32⟩
  | 113 => ⟨S512x7, .i32⟩
  | 114 => ⟨S14, .i32⟩
  | 115 => ⟨S1x14, .i32⟩
  | 116 => ⟨S512x7x1, .i32⟩
  | 117 => ⟨S1x1x14, .i32⟩
  | 118 => ⟨S512x7x14, .i32⟩
  | 119 => ⟨S512x7x14, .i32⟩
  | 120 => ⟨S512x7x14, .i1⟩
  | 121 => ⟨S1x14, .i32⟩
  | 122 => ⟨S512x7x1, .i32⟩
  | 123 => ⟨S1x1x14, .i32⟩
  | 124 => ⟨S512x7x14, .i32⟩
  | 125 => ⟨S512x7x14, .i32⟩
  | 126 => ⟨S512x7x14, .i1⟩
  | 127 => ⟨S512x7x14, .i1⟩
  | _ => ⟨S1x2048x14x14, .f32⟩

abbrev hbmTy0_1 (i : Nat) : BufTy := match i % 128 with
  | 0 => ⟨S512x7, .i32⟩
  | 1 => ⟨S_, .i32⟩
  | 2 => ⟨S512x7, .i32⟩
  | 3 => ⟨S512x7, .i32⟩
  | 4 => ⟨S512x7, .f32⟩
  | 5 => ⟨S512x7x14, .f32⟩
  | 6 => ⟨S512x7x1, .f32⟩
  | 7 => ⟨S512x7x14, .f32⟩
  | 8 => ⟨S512x7x14, .f32⟩
  | 9 => ⟨S7, .i32⟩
  | 10 => ⟨S512, .i32⟩
  | 11 => ⟨S1x7, .i32⟩
  | 12 => ⟨S512x1, .i32⟩
  | 13 => ⟨S512x7, .i32⟩
  | 14 => ⟨S512x7, .i32⟩
  | 15 => ⟨S512x7, .i32⟩
  | 16 => ⟨S_, .i32⟩
  | 17 => ⟨S_, .i32⟩
  | 18 => ⟨S512x7, .i32⟩
  | 19 => ⟨S512x7, .i32⟩
  | 20 => ⟨S512x7, .i32⟩
  | 21 => ⟨S_, .i32⟩
  | 22 => ⟨S512x7, .i32⟩
  | 23 => ⟨S512x7, .i1⟩
  | 24 => ⟨S512x7, .i32⟩
  | 25 => ⟨S512x7, .i32⟩
  | 26 => ⟨S_, .i32⟩
  | 27 => ⟨S512x7, .i32⟩
  | 28 => ⟨S512x7, .i1⟩
  | 29 => ⟨S512x7, .i1⟩
  | 30 => ⟨S_, .i32⟩
  | 31 => ⟨S512x7, .i32⟩
  | 32 => ⟨S512x7, .i32⟩
  | 33 => ⟨S512x7, .i32⟩
  | 34 => ⟨S512x1, .i32⟩
  | 35 => ⟨S512x7, .i32⟩
  | 36 => ⟨S512x7, .i32⟩
  | 37 => ⟨S_, .i32⟩
  | 38 => ⟨S7, .i32⟩
  | 39 => ⟨S7, .i32⟩
  | 40 => ⟨S1x7, .i32⟩
  | 41 => ⟨S512x1, .i32⟩
  | 42 => ⟨S512x7, .i32⟩
  | 43 => ⟨S512x7, .i32⟩
  | 44 => ⟨S512x7, .i32⟩
  | 45 => ⟨S_, .i32⟩
  | 46 => ⟨S512x7, .i32⟩
  | 47 => ⟨S512x7, .i32⟩
  | 48 => ⟨S_, .i32⟩
  | 49 => ⟨S_, .i32⟩
  | 50 => ⟨S512x7, .i32⟩
  | 51 => ⟨S512x7, .i32⟩
  | 52 => ⟨S512x7, .i32⟩
  | 53 => ⟨S_, .i32⟩
  | 54 => ⟨S512x7, .i32⟩
  | 55 => ⟨S512x7, .i1⟩
  | 56 => ⟨S512x7, .i32⟩
  | 57 => ⟨S512x7, .i32⟩
  | 58 => ⟨S_, .i32⟩
  | 59 => ⟨S512x7, .i32⟩
  | 60 => ⟨S512x7, .i1⟩
  | 61 => ⟨S512x7, .i1⟩
  | 62 => ⟨S_, .i32⟩
  | 63 => ⟨S512x7, .i32⟩
  | 64 => ⟨S512x7, .i32⟩
  | 65 => ⟨S512x7, .i32⟩
  | 66 => ⟨S512x1, .i32⟩
  | 67 => ⟨S512x7, .i32⟩
  | 68 => ⟨S512x7, .i32⟩
  | 69 => ⟨S14, .i32⟩
  | 70 => ⟨S1x14, .i32⟩
  | 71 => ⟨S512x7x1, .i32⟩
  | 72 => ⟨S1x1x14, .i32⟩
  | 73 => ⟨S512x7x14, .i32⟩
  | 74 => ⟨S512x7x14, .i32⟩
  | 75 => ⟨S512x7x14, .i1⟩
  | 76 => ⟨S1x14, .i32⟩
  | 77 => ⟨S512x7x1, .i32⟩
  | 78 => ⟨S1x1x14, .i32⟩
  | 79 => ⟨S512x7x14, .i32⟩
  | 80 => ⟨S512x7x14, .i32⟩
  | 81 => ⟨S512x7x14, .i1⟩
  | 82 => ⟨S512x7x14, .i1⟩
  | 83 => ⟨S512x7, .i32⟩
  | 84 => ⟨S_, .i32⟩
  | 85 => ⟨S512x7, .i32⟩
  | 86 => ⟨S512x7, .i32⟩
  | 87 => ⟨S512x7, .f32⟩
  | 88 => ⟨S512x7x14, .f32⟩
  | 89 => ⟨S512x7x1, .f32⟩
  | 90 => ⟨S512x7x14, .f32⟩
  | 91 => ⟨S512x7x14, .f32⟩
  | 92 => ⟨S1x2048x14x512x7, .f32⟩
  | 93 => ⟨S512x1x2048x7x7, .f32⟩
  | 94 => ⟨S512x2048x7x7, .f32⟩
  | _ => ⟨S1x2048x14x14, .f32⟩

abbrev hbmTy (i : Nat) : BufTy := match i / 128 with
  | 0 => hbmTy0_0 i
  | 1 => hbmTy0_1 i
  | _ => ⟨S1x2048x14x14, .f32⟩

abbrev bufTy : (tb : Table) → Fin (tcTables nBuf tb) → BufTy
  | .hbm, ⟨i, _⟩ => hbmTy i
  | _, _ => ⟨S1x2048x14x14, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_c_0 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_c_2 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_c_3 : Ref sig .tc := ⟨.hbm, 33, rfl⟩
abbrev main_c_4 : Ref sig .tc := ⟨.hbm, 34, rfl⟩
abbrev main_call2_v0 : Ref sig .tc := ⟨.hbm, 35, rfl⟩
abbrev main_call2_v1 : Ref sig .tc := ⟨.hbm, 36, rfl⟩
abbrev main_call2_v2 : Ref sig .tc := ⟨.hbm, 37, rfl⟩
abbrev main_call2_v3 : Ref sig .tc := ⟨.hbm, 38, rfl⟩
abbrev main_call2_v4 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_c_5 : Ref sig .tc := ⟨.hbm, 45, rfl⟩
abbrev main_c_6 : Ref sig .tc := ⟨.hbm, 46, rfl⟩
abbrev main_call3_v0 : Ref sig .tc := ⟨.hbm, 47, rfl⟩
abbrev main_call3_v1 : Ref sig .tc := ⟨.hbm, 48, rfl⟩
abbrev main_call3_v2 : Ref sig .tc := ⟨.hbm, 49, rfl⟩
abbrev main_call3_v3 : Ref sig .tc := ⟨.hbm, 50, rfl⟩
abbrev main_call3_v4 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_c_7 : Ref sig .tc := ⟨.hbm, 61, rfl⟩
abbrev main_call4_v0 : Ref sig .tc := ⟨.hbm, 62, rfl⟩
abbrev main_call4_v1 : Ref sig .tc := ⟨.hbm, 63, rfl⟩
abbrev main_call4_v2 : Ref sig .tc := ⟨.hbm, 64, rfl⟩
abbrev main_call4_v3 : Ref sig .tc := ⟨.hbm, 65, rfl⟩
abbrev main_call4_v4 : Ref sig .tc := ⟨.hbm, 66, rfl⟩
abbrev main_call4_v5 : Ref sig .tc := ⟨.hbm, 67, rfl⟩
abbrev main_call4_v6 : Ref sig .tc := ⟨.hbm, 68, rfl⟩
abbrev main_call4_v7 : Ref sig .tc := ⟨.hbm, 69, rfl⟩
abbrev main_call4_v8 : Ref sig .tc := ⟨.hbm, 70, rfl⟩
abbrev main_call4_c : Ref sig .tc := ⟨.hbm, 71, rfl⟩
abbrev main_call4_v9 : Ref sig .tc := ⟨.hbm, 72, rfl⟩
abbrev main_call4_v10 : Ref sig .tc := ⟨.hbm, 73, rfl⟩
abbrev main_call4_v11 : Ref sig .tc := ⟨.hbm, 74, rfl⟩
abbrev main_call4_c_0 : Ref sig .tc := ⟨.hbm, 75, rfl⟩
abbrev main_call4_v12 : Ref sig .tc := ⟨.hbm, 76, rfl⟩
abbrev main_call4_v13 : Ref sig .tc := ⟨.hbm, 77, rfl⟩
abbrev main_v30 : Ref sig .tc := ⟨.hbm, 78, rfl⟩
abbrev main_v31 : Ref sig .tc := ⟨.hbm, 79, rfl⟩
abbrev main_v32 : Ref sig .tc := ⟨.hbm, 80, rfl⟩
abbrev main_v33 : Ref sig .tc := ⟨.hbm, 81, rfl⟩
abbrev main_c_8 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_c_9 : Ref sig .tc := ⟨.hbm, 90, rfl⟩
abbrev main_v41 : Ref sig .tc := ⟨.hbm, 91, rfl⟩
abbrev main_v42 : Ref sig .tc := ⟨.hbm, 92, rfl⟩
abbrev main_c_10 : Ref sig .tc := ⟨.hbm, 93, rfl⟩
abbrev main_call5_v0 : Ref sig .tc := ⟨.hbm, 94, rfl⟩
abbrev main_call5_v1 : Ref sig .tc := ⟨.hbm, 95, rfl⟩
abbrev main_call5_v2 : Ref sig .tc := ⟨.hbm, 96, rfl⟩
abbrev main_call5_v3 : Ref sig .tc := ⟨.hbm, 97, rfl⟩
abbrev main_call5_v4 : Ref sig .tc := ⟨.hbm, 98, rfl⟩
abbrev main_call5_v5 : Ref sig .tc := ⟨.hbm, 99, rfl⟩
abbrev main_call5_v6 : Ref sig .tc := ⟨.hbm, 100, rfl⟩
abbrev main_call5_v7 : Ref sig .tc := ⟨.hbm, 101, rfl⟩
abbrev main_call5_v8 : Ref sig .tc := ⟨.hbm, 102, rfl⟩
abbrev main_call5_c : Ref sig .tc := ⟨.hbm, 103, rfl⟩
abbrev main_call5_v9 : Ref sig .tc := ⟨.hbm, 104, rfl⟩
abbrev main_call5_v10 : Ref sig .tc := ⟨.hbm, 105, rfl⟩
abbrev main_call5_v11 : Ref sig .tc := ⟨.hbm, 106, rfl⟩
abbrev main_call5_c_0 : Ref sig .tc := ⟨.hbm, 107, rfl⟩
abbrev main_call5_v12 : Ref sig .tc := ⟨.hbm, 108, rfl⟩
abbrev main_call5_v13 : Ref sig .tc := ⟨.hbm, 109, rfl⟩
abbrev main_v43 : Ref sig .tc := ⟨.hbm, 110, rfl⟩
abbrev main_v44 : Ref sig .tc := ⟨.hbm, 111, rfl⟩
abbrev main_v45 : Ref sig .tc := ⟨.hbm, 112, rfl⟩
abbrev main_v46 : Ref sig .tc := ⟨.hbm, 113, rfl⟩
abbrev main_v47 : Ref sig .tc := ⟨.hbm, 114, rfl⟩
abbrev main_v48 : Ref sig .tc := ⟨.hbm, 115, rfl⟩
abbrev main_v49 : Ref sig .tc := ⟨.hbm, 116, rfl⟩
abbrev main_v50 : Ref sig .tc := ⟨.hbm, 117, rfl⟩
abbrev main_v51 : Ref sig .tc := ⟨.hbm, 118, rfl⟩
abbrev main_v52 : Ref sig .tc := ⟨.hbm, 119, rfl⟩
abbrev main_v53 : Ref sig .tc := ⟨.hbm, 120, rfl⟩
abbrev main_v54 : Ref sig .tc := ⟨.hbm, 121, rfl⟩
abbrev main_v55 : Ref sig .tc := ⟨.hbm, 122, rfl⟩
abbrev main_v56 : Ref sig .tc := ⟨.hbm, 123, rfl⟩
abbrev main_v57 : Ref sig .tc := ⟨.hbm, 124, rfl⟩
abbrev main_v58 : Ref sig .tc := ⟨.hbm, 125, rfl⟩
abbrev main_v59 : Ref sig .tc := ⟨.hbm, 126, rfl⟩
abbrev main_v60 : Ref sig .tc := ⟨.hbm, 127, rfl⟩
abbrev main_v61 : Ref sig .tc := ⟨.hbm, 128, rfl⟩
abbrev main_c_11 : Ref sig .tc := ⟨.hbm, 129, rfl⟩
abbrev main_v62 : Ref sig .tc := ⟨.hbm, 130, rfl⟩
abbrev main_v63 : Ref sig .tc := ⟨.hbm, 131, rfl⟩
abbrev main_v64 : Ref sig .tc := ⟨.hbm, 132, rfl⟩
abbrev main_v65 : Ref sig .tc := ⟨.hbm, 133, rfl⟩
abbrev main_v66 : Ref sig .tc := ⟨.hbm, 134, rfl⟩
abbrev main_v67 : Ref sig .tc := ⟨.hbm, 135, rfl⟩
abbrev main_v68 : Ref sig .tc := ⟨.hbm, 136, rfl⟩
abbrev main_v69 : Ref sig .tc := ⟨.hbm, 137, rfl⟩
abbrev main_v70 : Ref sig .tc := ⟨.hbm, 138, rfl⟩
abbrev main_v71 : Ref sig .tc := ⟨.hbm, 139, rfl⟩
abbrev main_v72 : Ref sig .tc := ⟨.hbm, 140, rfl⟩
abbrev main_v73 : Ref sig .tc := ⟨.hbm, 141, rfl⟩
abbrev main_v74 : Ref sig .tc := ⟨.hbm, 142, rfl⟩
abbrev main_v75 : Ref sig .tc := ⟨.hbm, 143, rfl⟩
abbrev main_c_12 : Ref sig .tc := ⟨.hbm, 144, rfl⟩
abbrev main_call6_v0 : Ref sig .tc := ⟨.hbm, 145, rfl⟩
abbrev main_call6_v1 : Ref sig .tc := ⟨.hbm, 146, rfl⟩
abbrev main_call6_v2 : Ref sig .tc := ⟨.hbm, 147, rfl⟩
abbrev main_call6_v3 : Ref sig .tc := ⟨.hbm, 148, rfl⟩
abbrev main_call6_v4 : Ref sig .tc := ⟨.hbm, 149, rfl⟩
abbrev main_call6_v5 : Ref sig .tc := ⟨.hbm, 150, rfl⟩
abbrev main_call6_v6 : Ref sig .tc := ⟨.hbm, 151, rfl⟩
abbrev main_call6_v7 : Ref sig .tc := ⟨.hbm, 152, rfl⟩
abbrev main_call6_v8 : Ref sig .tc := ⟨.hbm, 153, rfl⟩
abbrev main_call6_c : Ref sig .tc := ⟨.hbm, 154, rfl⟩
abbrev main_call6_v9 : Ref sig .tc := ⟨.hbm, 155, rfl⟩
abbrev main_call6_v10 : Ref sig .tc := ⟨.hbm, 156, rfl⟩
abbrev main_call6_v11 : Ref sig .tc := ⟨.hbm, 157, rfl⟩
abbrev main_call6_c_0 : Ref sig .tc := ⟨.hbm, 158, rfl⟩
abbrev main_call6_v12 : Ref sig .tc := ⟨.hbm, 159, rfl⟩
abbrev main_call6_v13 : Ref sig .tc := ⟨.hbm, 160, rfl⟩
abbrev main_v76 : Ref sig .tc := ⟨.hbm, 161, rfl⟩
abbrev main_v77 : Ref sig .tc := ⟨.hbm, 162, rfl⟩
abbrev main_v78 : Ref sig .tc := ⟨.hbm, 163, rfl⟩
abbrev main_v79 : Ref sig .tc := ⟨.hbm, 164, rfl⟩
abbrev main_c_13 : Ref sig .tc := ⟨.hbm, 165, rfl⟩
abbrev main_v80 : Ref sig .tc := ⟨.hbm, 166, rfl⟩
abbrev main_v81 : Ref sig .tc := ⟨.hbm, 167, rfl⟩
abbrev main_v82 : Ref sig .tc := ⟨.hbm, 168, rfl⟩
abbrev main_v83 : Ref sig .tc := ⟨.hbm, 169, rfl⟩
abbrev main_v84 : Ref sig .tc := ⟨.hbm, 170, rfl⟩
abbrev main_v85 : Ref sig .tc := ⟨.hbm, 171, rfl⟩
abbrev main_v86 : Ref sig .tc := ⟨.hbm, 172, rfl⟩
abbrev main_c_14 : Ref sig .tc := ⟨.hbm, 173, rfl⟩
abbrev main_v87 : Ref sig .tc := ⟨.hbm, 174, rfl⟩
abbrev main_v88 : Ref sig .tc := ⟨.hbm, 175, rfl⟩
abbrev main_c_15 : Ref sig .tc := ⟨.hbm, 176, rfl⟩
abbrev main_call7_v0 : Ref sig .tc := ⟨.hbm, 177, rfl⟩
abbrev main_call7_v1 : Ref sig .tc := ⟨.hbm, 178, rfl⟩
abbrev main_call7_v2 : Ref sig .tc := ⟨.hbm, 179, rfl⟩
abbrev main_call7_v3 : Ref sig .tc := ⟨.hbm, 180, rfl⟩
abbrev main_call7_v4 : Ref sig .tc := ⟨.hbm, 181, rfl⟩
abbrev main_call7_v5 : Ref sig .tc := ⟨.hbm, 182, rfl⟩
abbrev main_call7_v6 : Ref sig .tc := ⟨.hbm, 183, rfl⟩
abbrev main_call7_v7 : Ref sig .tc := ⟨.hbm, 184, rfl⟩
abbrev main_call7_v8 : Ref sig .tc := ⟨.hbm, 185, rfl⟩
abbrev main_call7_c : Ref sig .tc := ⟨.hbm, 186, rfl⟩
abbrev main_call7_v9 : Ref sig .tc := ⟨.hbm, 187, rfl⟩
abbrev main_call7_v10 : Ref sig .tc := ⟨.hbm, 188, rfl⟩
abbrev main_call7_v11 : Ref sig .tc := ⟨.hbm, 189, rfl⟩
abbrev main_call7_c_0 : Ref sig .tc := ⟨.hbm, 190, rfl⟩
abbrev main_call7_v12 : Ref sig .tc := ⟨.hbm, 191, rfl⟩
abbrev main_call7_v13 : Ref sig .tc := ⟨.hbm, 192, rfl⟩
abbrev main_v89 : Ref sig .tc := ⟨.hbm, 193, rfl⟩
abbrev main_v90 : Ref sig .tc := ⟨.hbm, 194, rfl⟩
abbrev main_v91 : Ref sig .tc := ⟨.hbm, 195, rfl⟩
abbrev main_v92 : Ref sig .tc := ⟨.hbm, 196, rfl⟩
abbrev main_v93 : Ref sig .tc := ⟨.hbm, 197, rfl⟩
abbrev main_v94 : Ref sig .tc := ⟨.hbm, 198, rfl⟩
abbrev main_v95 : Ref sig .tc := ⟨.hbm, 199, rfl⟩
abbrev main_v96 : Ref sig .tc := ⟨.hbm, 200, rfl⟩
abbrev main_v97 : Ref sig .tc := ⟨.hbm, 201, rfl⟩
abbrev main_v98 : Ref sig .tc := ⟨.hbm, 202, rfl⟩
abbrev main_v99 : Ref sig .tc := ⟨.hbm, 203, rfl⟩
abbrev main_v100 : Ref sig .tc := ⟨.hbm, 204, rfl⟩
abbrev main_v101 : Ref sig .tc := ⟨.hbm, 205, rfl⟩
abbrev main_v102 : Ref sig .tc := ⟨.hbm, 206, rfl⟩
abbrev main_v103 : Ref sig .tc := ⟨.hbm, 207, rfl⟩
abbrev main_v104 : Ref sig .tc := ⟨.hbm, 208, rfl⟩
abbrev main_v105 : Ref sig .tc := ⟨.hbm, 209, rfl⟩
abbrev main_v106 : Ref sig .tc := ⟨.hbm, 210, rfl⟩
abbrev main_v107 : Ref sig .tc := ⟨.hbm, 211, rfl⟩
abbrev main_c_16 : Ref sig .tc := ⟨.hbm, 212, rfl⟩
abbrev main_v108 : Ref sig .tc := ⟨.hbm, 213, rfl⟩
abbrev main_v109 : Ref sig .tc := ⟨.hbm, 214, rfl⟩
abbrev main_v110 : Ref sig .tc := ⟨.hbm, 215, rfl⟩
abbrev main_v111 : Ref sig .tc := ⟨.hbm, 216, rfl⟩
abbrev main_v112 : Ref sig .tc := ⟨.hbm, 217, rfl⟩
abbrev main_v113 : Ref sig .tc := ⟨.hbm, 218, rfl⟩
abbrev main_v114 : Ref sig .tc := ⟨.hbm, 219, rfl⟩
abbrev main_v115 : Ref sig .tc := ⟨.hbm, 220, rfl⟩
abbrev main_v116 : Ref sig .tc := ⟨.hbm, 221, rfl⟩
abbrev main_v117 : Ref sig .tc := ⟨.hbm, 222, rfl⟩

abbrev nD : Nat := 1
abbrev τ : Topo := Topo.v7x

variable {F : FTy → Type} [FloatOps F]
-- ==== Proof.Body.lean ====
/- What one grid point leaves in the output's staging buffer, with the sixteen boxes of the block
   written by one formula instead of the sixteen copies of the unrolled body. -/
module

public import proofs.«01_k».proof.Proof.Gen.KernelIdeal.Frame
public import Idealize.ShloMosaic.Lib.Pipeline.ValueKit

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- The launch has no side condition on its table: no index map reads it. -/
theorem ok {F : FTy → Type} [FloatOps F] (m : (ℓ : Loc nD τ sig) → Buf (Elt F) ℓ) : Ok m := by
  unfold Ok ok0
  trivial

/-- Row `8 * i + j`, column `14 * y + x` of one box's weights, from the box's four table words: the
    formula that the unrolled body repeats sixteen times. -/
def boxWeights (x1 y1 x2 y2 : BitVec 32) : FVec Ideal S56x196 .f32 :=
  k0_pay19 k0_pay14 k0_pay15 (Scalar.subi x2 x1)
    (k0_pay16 (F := Ideal) k0_pay3 k0_pay4
      (k0_pay9 (iota .tc S56x196 32 [1] iota_S56x196_d1_w32) k0_pay5 k0_pay6 k0_pay7)
      (k0_pay10 (iota .tc S56x196 32 [1] iota_S56x196_d1_w32) k0_pay5 k0_pay6 k0_pay7)
      x1 y1 x2 y2)
    (k0_pay17 (F := Ideal) y1 y2) (k0_pay18 (F := Ideal) k0_pay13 y1 y2)

/-- The word that the body at point `t` loads as coordinate `q` of its box `k`. -/
def coordWord (t : Fin (cfgM m (ok m)).N) (k : Fin 16) (q : Fin 4) : BitVec 32 :=
  View.readAt (Elt Ideal) (View.whole main_v27)
    (Rect.unit (s := S2048) (k0_off1 (grid0.coords t) (BitVec.ofNat 32 k.val) (BitVec.ofNat 32 q.val)) S1.size
      (k0_off1_inb (grid0.coords t) k q)).toLoadRect (tbl m 0) (Shape.Idx.first (Nat.lt_of_lt_of_eq Nat.one_pos numel1_S1.symm))

/-- The sixteen boxes' weights stacked along the rows. -/
def stack (B : Fin 16 → FVec Ideal S56x196 .f32) : FVec Ideal S896x196 .f32 :=
  concatenate S896x196 0 [⟨S56x196, B 0⟩, ⟨S56x196, B 1⟩, ⟨S56x196, B 2⟩, ⟨S56x196, B 3⟩, ⟨S56x196, B 4⟩,
    ⟨S56x196, B 5⟩, ⟨S56x196, B 6⟩, ⟨S56x196, B 7⟩, ⟨S56x196, B 8⟩, ⟨S56x196, B 9⟩, ⟨S56x196, B 10⟩,
    ⟨S56x196, B 11⟩, ⟨S56x196, B 12⟩, ⟨S56x196, B 13⟩, ⟨S56x196, B 14⟩, ⟨S56x196, B 15⟩] concatenates_S56x196_S56x196_S56x196_S56x196_S56x196_S56x196_S56x196_S56x196_S56x196_S56x196_S56x196_S56x196_S56x196_S56x196_S56x196_S56x196_S896x196_d0

/-- Sixteen blocks that agree with `B` one by one stack to the same matrix. -/
theorem stack_of_eq (B : Fin 16 → FVec Ideal S56x196 .f32) {A0 A1 A2 A3 A4 A5 A6 A7 A8 A9 A10 A11 A12 A13 A14 A15 : FVec Ideal S56x196 .f32}
    (h0 : A0 = B 0) (h1 : A1 = B 1) (h2 : A2 = B 2) (h3 : A3 = B 3) (h4 : A4 = B 4) (h5 : A5 = B 5) (h6 : A6 = B 6) (h7 : A7 = B 7) (h8 : A8 = B 8) (h9 : A9 = B 9) (h10 : A10 = B 10) (h11 : A11 = B 11) (h12 : A12 = B 12) (h13 : A13 = B 13) (h14 : A14 = B 14) (h15 : A15 = B 15) :
    concatenate S896x196 0 [⟨S56x196, A0⟩, ⟨S56x196, A1⟩, ⟨S56x196, A2⟩, ⟨S56x196, A3⟩, ⟨S56x196, A4⟩, ⟨S56x196, A5⟩, ⟨S56x196, A6⟩, ⟨S56x196, A7⟩, ⟨S56x196, A8⟩, ⟨S56x196, A9⟩, ⟨S56x196, A10⟩, ⟨S56x196, A11⟩, ⟨S56x196, A12⟩, ⟨S56x196, A13⟩, ⟨S56x196, A14⟩, ⟨S56x196, A15⟩]
      concatenates_S56x196_S56x196_S56x196_S56x196_S56x196_S56x196_S56x196_S56x196_S56x196_S56x196_S56x196_S56x196_S56x196_S56x196_S56x196_S56x196_S896x196_d0 = stack B := by
  subst h0 h1 h2 h3 h4 h5 h6 h7 h8 h9 h10 h11 h12 h13 h14 h15
  rfl

/-- What the body leaves at point `t`: the stacked weights times the staged image. -/
theorem outs_eq (c : Dev nD) (t : Fin (cfgM m (ok m)).N) :
    outsAt0 m (ok m) c t = k0_pay2 (stack fun k => boxWeights (coordWord m t k 0) (coordWord m t k 1)
      (coordWord m t k 2) (coordWord m t k 3)) (iblk m (ok m) c 0 t) := by
  unfold outsAt0
  frame_out
  refine congrArg₂ k0_pay2 ?_ ?_
  · refine stack_of_eq _ ?_ ?_ ?_ ?_ ?_ ?_ ?_ ?_ ?_ ?_ ?_ ?_ ?_ ?_ ?_ ?_
    all_goals rfl
  · exact (hs0_0 m (ok m) t).read_unread _

end Cert.KernelIdeal.Value

end
-- ==== Proof.Edges.lean ====
/- One edge of a box: a coordinate scaled, rounded to an integer and clipped to `0 … 14`, as a word. -/
module

public import Idealize.ShloMosaic.Lib.IdealHost
public import Idealize.ShloMosaic.Lib.Pointwise

@[expose] public section

noncomputable section

namespace Cert.Roi

open Idealize.ShloMosaic

/-- The edge that the coordinate `v` names: `v` times the image scale, rounded by `r` to an integer,
    clipped to `0 … 14`, as a word. -/
def edge (r : ℝ → ℤ) (v : EReal) : BitVec 32 :=
  Ideal.fptosi 32 (min (FloatOps.sitofp (F := Ideal) .f32 14#32) (max (FloatOps.sitofp (F := Ideal) .f32 0#32)
    (Ideal.liftRound r (v * Ideal.ofBits .f32 0x3D800000#32))))

/-- A number clipped to `0 … 14` converts to one of the words `0 … 14`, an infinity included. -/
theorem fptosi_clip (x : EReal) : ∃ a : Fin 15,
    Ideal.fptosi 32 (min (FloatOps.sitofp (F := Ideal) .f32 14#32) (max (FloatOps.sitofp (F := Ideal) .f32 0#32) x))
      = BitVec.ofNat 32 a.val := by
  have h14 : (FloatOps.sitofp (F := Ideal) .f32 14#32 : EReal) = ((14 : ℝ) : EReal) := by
    show (((14#32 : BitVec 32).toInt : ℝ) : EReal) = _
    rw [show (14#32 : BitVec 32).toInt = 14 by decide]
    norm_num
  have h0 : (FloatOps.sitofp (F := Ideal) .f32 0#32 : EReal) = ((0 : ℝ) : EReal) := by
    show (((0#32 : BitVec 32).toInt : ℝ) : EReal) = _
    norm_num
  obtain ⟨z, hz, hl, hu⟩ : ∃ z : ℝ, min (FloatOps.sitofp (F := Ideal) .f32 14#32 : EReal)
      (max (FloatOps.sitofp (F := Ideal) .f32 0#32) x) = (z : EReal) ∧ 0 ≤ z ∧ z ≤ 14 := by
    rw [h14, h0]
    induction x with
    | bot => exact ⟨0, by rw [max_eq_left bot_le, min_eq_right (by exact_mod_cast (by norm_num : (0:ℝ) ≤ 14))], by norm_num, by norm_num⟩
    | top => exact ⟨14, by rw [max_eq_right le_top, min_eq_left le_top], by norm_num, by norm_num⟩
    | coe y => exact ⟨min 14 (max 0 y), by push_cast; rfl, by simp, by simp⟩
  have hf0 : 0 ≤ ⌊z⌋ := Int.floor_nonneg.2 hl
  have hf14 : ⌊z⌋ ≤ 14 := by
    have : ⌊z⌋ ≤ ⌊(14 : ℝ)⌋ := Int.floor_le_floor hu
    simpa using this
  obtain ⟨k, hk⟩ := Int.eq_ofNat_of_zero_le hf0
  have hk14 : k ≤ 14 := by omega
  refine ⟨⟨k, by omega⟩, ?_⟩
  rw [hz]
  unfold Ideal.fptosi
  rw [Ideal.toIntClamped_coe, if_pos hl, hk, min_eq_right (by norm_num; omega), max_eq_right (by norm_num)]
  exact BitVec.ofInt_natCast 32 k

/-- Every edge is one of the words `0 … 14`. -/
theorem edge_small (r : ℝ → ℤ) (v : EReal) : ∃ a : Fin 15, edge r v = BitVec.ofNat 32 a.val :=
  fptosi_clip _

end Cert.Roi

end
-- ==== Proof.Coords.lean ====
/- The words of the coordinate table, and which of them the body of a grid point loads. -/
module
public import proofs.«01_k».proof.Proof.Body
public import proofs.«01_k».proof.Proof.Edges
public import Idealize.ShloMosaic.Lib.StableHlo.ReadAt
@[expose] public section
set_option maxRecDepth 16384

noncomputable section

namespace Cert.KernelIdeal.Value

open Idealize.ShloMosaic Idealize.ShloMosaic.TcCoe Idealize.SL.Sem Idealize.ShloMosaic.Pointwise
open Cert.Roi Cert.KernelIdeal Cert.KernelIdeal.Gen

variable (m : (ℓ : Loc nD τ sig) → Buf (Elt Ideal) ℓ)

/-- The body at point `t` loads, for coordinate `q` of its box `k`, word `64 * t + 4 * k + q` of the table. -/
theorem coord_read (t : Fin (cfgM m (ok m)).N) (k : Fin 16) (q : Fin 4) (n : Fin 2048)
    (hn : n.val = 64 * t.val + 4 * k.val + q.val) : coordWord m t k q = tbl m 0 (ix1 n) := by
  unfold coordWord
  have h0 : (grid0.coords t 0).val = t.val := (by decide +kernel : ∀ t : Fin grid0.N, (grid0.coords t 0).val = t.val) t
  have h := congrFun (k0_off1_eq (grid0.coords t) k q) 0
  show tbl m 0 _ = tbl m 0 _
  refine congrArg (tbl m 0) ?_
  funext a
  fin_cases a
  apply Fin.ext
  show k0_off1 (grid0.coords t) (BitVec.ofNat 32 k.val) (BitVec.ofNat 32 q.val) 0 + _ * 0 = n.val
  rw [h]
  show 64 * (grid0.coords t 0).val + 4 * k.val + q.val + _ * 0 = n.val
  rw [h0]
  omega

/-- Coordinate `q` of box `n` in the table: the box's left or upper edge rounded down, or its right or
    lower edge rounded up. -/
def boxEdge (n : Fin 512) (q : Fin 4) : BitVec 32 :=
  match q with
  | 0 => edge Int.floor (m ((0 : Dev nD), Proc.tc.devRef main_arg1) (ix2 n 1))
  | 1 => edge Int.floor (m ((0 : Dev nD), Proc.tc.devRef main_arg1) (ix2 n 2))
  | 2 => edge Int.ceil (m ((0 : Dev nD), Proc.tc.devRef main_arg1) (ix2 n 3))
  | 3 => edge Int.ceil (m ((0 : Dev nD), Proc.tc.devRef main_arg1) (ix2 n 4))

/-- Word `4 * n + q` of the table is coordinate `q` of box `n`. -/
theorem tbl_read (n : Fin 512) (q : Fin 4) :
    tbl m 0 (ix1 ⟨4 * n.val + q.val, by omega⟩) = boxEdge m n q := by
  show V m 0 main_v27 _ = _
  unfold V
  after_reads_at
  after_reads_at
  fin_vals q with hq
  all_goals simp only [hq, Nat.reduceSub, Nat.reduceLT, ↓reduceDIte]
  · rw [show q = 0 from Fin.ext hq]; rfl
  · rw [show q = 1 from Fin.ext hq]; rfl
  · rw [show q = 2 from Fin.ext hq]; rfl
  · rw [show q = 3 from Fin.ext hq]; rfl

/-- The word loaded for coordinate `q` of box `k` of point `t` is coordinate `q` of box `16 * t + k`. -/
theorem coordWord_eq (t : Fin (cfgM m (ok m)).N) (k : Fin 16) (q : Fin 4) (n : Fin 512)
    (hn : n.val = 16 * t.val + k.val) : coordWord m t k q = boxEdge m n q := by
  rw [← tbl_read, coord_read m t k q ⟨4 * n.val + q.val, by omega⟩ (by show 4 * n.val + q.val = _; omega)]

end Cert.KernelIdeal.Value

end
-- ==== Proof.Bins.lean ====
/- The averaging weight of one bin along one axis, as the two programs compute it.

   A box covers the positions `a ≤ p < b` of an axis and is cut into seven bins; bin `i` holds the
   positions from `a + ⌊i * L / 7⌋` up to `a + ⌈(i + 1) * L / 7⌉`, where `L = b - a`. One program
   divides the integers; the other compares `7 * p` with `i * L` and multiplies by a number a little
   above one seventh before it rounds down. The edges are words of `0 … 14`, so that the two agree is
   checked over all of them. -/
module

public import Idealize.ShloMosaic.Lib.IdealHost
public import Idealize.ShloMosaic.Lib.Pointwise

@[expose] public section

noncomputable section

namespace Cert.Roi

open Idealize.ShloMosaic

/-- The sign of a word: zero, minus one or one. -/
def signWord (v : BitVec 32) : BitVec 32 :=
  if v = 0 then 0 else if BitVec.msb v = true then -1 else 1

/-- The quotient of `v` by seven rounded down, from the quotient rounded towards zero. -/
def floorDiv7 (v : BitVec 32) : BitVec 32 :=
  Scalar.select
    (IntOp.andi (IntOp.cmpi .ne (signWord v) (signWord 7#32)) (IntOp.cmpi .ne (IntOp.remsi .host v 7#32) 0#32))
    (IntOp.subi (IntOp.divsi .host v 7#32) 1#32) (IntOp.divsi .host v 7#32)

/-- The first position of bin `i` of a box that starts at `a` and is `L` long. -/
def binLo (a L i : BitVec 32) : BitVec 32 := IntOp.addi a (floorDiv7 (IntOp.muli i L))

/-- The position after the last one of bin `i` of a box that starts at `a` and is `L` long. -/
def binHi (a L i : BitVec 32) : BitVec 32 :=
  IntOp.addi a (floorDiv7 (IntOp.addi (IntOp.muli (IntOp.addi i 1#32) L) 6#32))

/-- Whether position `p` lies in bin `i`. -/
def inBin (a L i p : BitVec 32) : BitVec 1 :=
  IntOp.andi (IntOp.cmpi .sge p (binLo a L i)) (IntOp.cmpi .slt p (binHi a L i))

/-- The number of positions in bin `i`, at least one. -/
def binLen (a L i : BitVec 32) : BitVec 32 := IntOp.maxsi (IntOp.subi (binHi a L i) (binLo a L i)) 1#32

/-- Whether position `p` lies in bin `i`, by comparing sevenfold positions. -/
def inBin7 (a L i p : BitVec 32) : BitVec 1 :=
  IntOp.andi
    (IntOp.cmpi .sge (IntOp.subi (IntOp.muli 7#32 p) (Scalar.subi (Scalar.muli 7#32 a) 6#32)) (IntOp.muli i L))
    (IntOp.cmpi .slt (IntOp.subi (IntOp.muli 7#32 p) (Scalar.addi (Scalar.muli 7#32 a) L)) (IntOp.muli i L))

/-- The number of positions in bin `i`, from products with a number a little above one seventh. -/
def binLen7 (i L : BitVec 32) : EReal :=
  max (Ideal.liftRound Int.floor
        ((FloatOps.sitofp (F := Ideal) .f32 i * ((L.toInt : ℝ) : EReal)
            + (((L.toInt : ℝ) : EReal) + Ideal.ofBits .f32 0x40C00000#32)) * Ideal.ofBits .f32 0x3E12492E#32)
      - Ideal.liftRound Int.floor
        (FloatOps.sitofp (F := Ideal) .f32 i * ((L.toInt : ℝ) : EReal) * Ideal.ofBits .f32 0x3E12492E#32))
    1

/-- `binLen7` over the integers. -/
def binLenZ (i L : ℤ) : ℤ :=
  max ((i * L + (L + 6)) * 4793495 / 33554432 - i * L * 4793495 / 33554432) 1

/-- Both tests hold of the same positions, and where they hold the two lengths are equal. -/
theorem bins_agree : ∀ a b : Fin 15, ∀ i : Fin 7, ∀ p : Fin 14,
    inBin7 (BitVec.ofNat 32 a.val) (Scalar.subi (BitVec.ofNat 32 b.val) (BitVec.ofNat 32 a.val))
        (BitVec.ofNat 32 i.val) (BitVec.ofNat 32 p.val)
      = inBin (BitVec.ofNat 32 a.val) (Scalar.subi (BitVec.ofNat 32 b.val) (BitVec.ofNat 32 a.val))
          (BitVec.ofNat 32 i.val) (BitVec.ofNat 32 p.val)
    ∧ (inBin (BitVec.ofNat 32 a.val) (Scalar.subi (BitVec.ofNat 32 b.val) (BitVec.ofNat 32 a.val))
          (BitVec.ofNat 32 i.val) (BitVec.ofNat 32 p.val) = 1#1 →
      binLenZ (BitVec.ofNat 32 i.val).toInt (Scalar.subi (BitVec.ofNat 32 b.val) (BitVec.ofNat 32 a.val)).toInt
        = (binLen (BitVec.ofNat 32 a.val) (Scalar.subi (BitVec.ofNat 32 b.val) (BitVec.ofNat 32 a.val))
            (BitVec.ofNat 32 i.val)).toInt) := by
  decide +kernel

/-- A length is at least one. -/
theorem binLen_pos : ∀ a b : Fin 15, ∀ i : Fin 7,
    1 ≤ (binLen (BitVec.ofNat 32 a.val) (Scalar.subi (BitVec.ofNat 32 b.val) (BitVec.ofNat 32 a.val))
      (BitVec.ofNat 32 i.val)).toInt := by
  decide +kernel

end Cert.Roi

end
-- ==== Proof.Axis.lean ====
/- The weight of one position in the average over one bin, as a real number, and that each program's
   expression for it is that number. -/
module

public import proofs.«01_k».proof.Proof.Bins

@[expose] public section

noncomputable section

namespace Cert.Roi

open Idealize.ShloMosaic

/-- The number `6.0`. -/
theorem ofBits_six : Ideal.ofBits .f32 0x40C00000#32 = ((6 : ℝ) : EReal) := by
  simp [Ideal.ofBits, Ideal.ieee, -EReal.coe_mul]; norm_num

/-- The number a little above one seventh. -/
theorem ofBits_seventh : Ideal.ofBits .f32 0x3E12492E#32 = ((4793495 / 33554432 : ℝ) : EReal) := by
  simp [Ideal.ofBits, Ideal.ieee, -EReal.coe_mul]; norm_num

/-- Rounding down an integer times `4793495 / 2^25` is a division of integers. -/
theorem floor_mul (k : ℤ) : ⌊(k : ℝ) * (4793495 / 33554432)⌋ = k * 4793495 / 33554432 := by
  rw [Int.floor_eq_iff]
  have h1 : k * 4793495 / 33554432 * 33554432 ≤ k * 4793495 := Int.ediv_mul_le _ (by norm_num)
  have h2 : k * 4793495 < (k * 4793495 / 33554432 + 1) * 33554432 := by omega
  have h1' : ((k * 4793495 / 33554432 : ℤ) : ℝ) * 33554432 ≤ (k : ℝ) * 4793495 := by exact_mod_cast h1
  have h2' : (k : ℝ) * 4793495 < (((k * 4793495 / 33554432 : ℤ) : ℝ) + 1) * 33554432 := by exact_mod_cast h2
  constructor <;> linarith

/-- `binLen7` is the integer `binLenZ`. -/
theorem binLen7_eq (i L : BitVec 32) : binLen7 i L = (((binLenZ i.toInt L.toInt : ℤ) : ℝ) : EReal) := by
  unfold binLen7 binLenZ
  have hs : (FloatOps.sitofp (F := Ideal) .f32 i : EReal) = ((i.toInt : ℝ) : EReal) := rfl
  rw [ofBits_six, ofBits_seventh, hs]
  rw [← EReal.coe_mul, ← EReal.coe_add, ← EReal.coe_add, ← EReal.coe_mul, ← EReal.coe_mul,
    Ideal.liftRound_coe, Ideal.liftRound_coe]
  have e1 : ((i.toInt : ℝ) * L.toInt + (L.toInt + 6)) = ((i.toInt * L.toInt + (L.toInt + 6) : ℤ) : ℝ) := by push_cast; ring
  have e2 : ((i.toInt : ℝ) * L.toInt) = ((i.toInt * L.toInt : ℤ) : ℝ) := by push_cast; ring
  rw [e1, e2, floor_mul, floor_mul, ← EReal.coe_sub, ← EReal.coe_one,
    ← EReal.coe_strictMono.monotone.map_max]
  push_cast
  rfl

/-- The weight of position `p` in the average over bin `i` of the box `a … b`: one over the bin's length
    inside the bin, zero outside. -/
def axisWeight (a b i p : BitVec 32) : ℝ :=
  if inBin a (Scalar.subi b a) i p = 1#1 then 1 / ((binLen a (Scalar.subi b a) i).toInt : ℝ) else 0

/-- A weight is not negative. -/
theorem axisWeight_nonneg (a b : Fin 15) (i : Fin 7) (p : BitVec 32) :
    0 ≤ axisWeight (BitVec.ofNat 32 a.val) (BitVec.ofNat 32 b.val) (BitVec.ofNat 32 i.val) p := by
  unfold axisWeight
  split
  · have h := binLen_pos a b i
    have : (1 : ℝ) ≤ ((binLen (BitVec.ofNat 32 a.val) (Scalar.subi (BitVec.ofNat 32 b.val) (BitVec.ofNat 32 a.val))
      (BitVec.ofNat 32 i.val)).toInt : ℝ) := by exact_mod_cast h
    positivity
  · exact le_rfl

/-- The test as a number, over the length, is the weight. -/
theorem div_eq_axisWeight (a b : Fin 15) (i : Fin 7) (p : BitVec 32) :
    Ideal.div
      (FloatOps.uitofp (F := Ideal) .f32 (inBin (BitVec.ofNat 32 a.val)
        (Scalar.subi (BitVec.ofNat 32 b.val) (BitVec.ofNat 32 a.val)) (BitVec.ofNat 32 i.val) p))
      (FloatOps.sitofp (F := Ideal) .f32 (binLen (BitVec.ofNat 32 a.val)
        (Scalar.subi (BitVec.ofNat 32 b.val) (BitVec.ofNat 32 a.val)) (BitVec.ofNat 32 i.val)))
      = ((axisWeight (BitVec.ofNat 32 a.val) (BitVec.ofNat 32 b.val) (BitVec.ofNat 32 i.val) p : ℝ) : EReal) := by
  have h := binLen_pos a b i
  unfold axisWeight
  generalize binLen (BitVec.ofNat 32 a.val) (Scalar.subi (BitVec.ofNat 32 b.val) (BitVec.ofNat 32 a.val))
    (BitVec.ofNat 32 i.val) = d at h ⊢
  generalize inBin (BitVec.ofNat 32 a.val) (Scalar.subi (BitVec.ofNat 32 b.val) (BitVec.ofNat 32 a.val))
    (BitVec.ofNat 32 i.val) p = c
  have hd : ((d.toInt : ℤ) : ℝ) ≠ 0 := by
    have : (1 : ℝ) ≤ ((d.toInt : ℤ) : ℝ) := by exact_mod_cast h
    linarith
  show Ideal.div (((c.toNat : ℝ)) : EReal) ((d.toInt : ℝ) : EReal) = _
  rw [Ideal.div_coe hd, ← EReal.coe_mul]
  rcases BitVec.eq_zero_or_eq_one c with rfl | rfl
  · simp
  · simp

/-- One cell of a box's weights: one over the product of the two lengths where both tests hold and the
    column's bin `j` is one of the seven, zero elsewhere. -/
def cell (x1 y1 x2 y2 i j y x : BitVec 32) : EReal :=
  Scalar.select
    (IntOp.andi (inBin7 y1 (Scalar.subi y2 y1) i y) (inBin7 x1 (Scalar.subi x2 x1) j x))
    (Scalar.select (IntOp.cmpi .slt j 7#32)
      (Ideal.div 1 (binLen7 i (Scalar.subi y2 y1) * binLen7 j (Scalar.subi x2 x1))) 0) 0

/-- A column's bin below seven passes the test for it. -/
theorem bin_valid : ∀ j : Fin 7, IntOp.cmpi .slt (BitVec.ofNat 32 j.val) 7#32 = 1#1 := by decide

/-- A cell is the product of the two axes' weights. -/
theorem cell_eq (x1 y1 x2 y2 : Fin 15) (i j : Fin 7) (y x : Fin 14) :
    cell (BitVec.ofNat 32 x1.val) (BitVec.ofNat 32 y1.val) (BitVec.ofNat 32 x2.val) (BitVec.ofNat 32 y2.val)
        (BitVec.ofNat 32 i.val) (BitVec.ofNat 32 j.val) (BitVec.ofNat 32 y.val) (BitVec.ofNat 32 x.val)
      = ((axisWeight (BitVec.ofNat 32 y1.val) (BitVec.ofNat 32 y2.val) (BitVec.ofNat 32 i.val) (BitVec.ofNat 32 y.val)
          * axisWeight (BitVec.ofNat 32 x1.val) (BitVec.ofNat 32 x2.val) (BitVec.ofNat 32 j.val)
              (BitVec.ofNat 32 x.val) : ℝ) : EReal) := by
  obtain ⟨hy, hly⟩ := bins_agree y1 y2 i y
  obtain ⟨hx, hlx⟩ := bins_agree x1 x2 j x
  have py := binLen_pos y1 y2 i
  have px := binLen_pos x1 x2 j
  unfold cell axisWeight
  rw [hy, hx, bin_valid j, binLen7_eq, binLen7_eq]
  generalize inBin (BitVec.ofNat 32 y1.val) _ _ _ = cy at hly ⊢
  generalize inBin (BitVec.ofNat 32 x1.val) _ _ _ = cx at hlx ⊢
  rcases BitVec.eq_zero_or_eq_one cy with rfl | rfl
  · simp [Scalar.select, IntOp.andi]
  rcases BitVec.eq_zero_or_eq_one cx with rfl | rfl
  · simp [Scalar.select, IntOp.andi]
  rw [hly rfl, hlx rfl, if_pos rfl, if_pos rfl]
  generalize (binLen (BitVec.ofNat 32 y1.val) _ _).toInt = dy at py ⊢
  generalize (binLen (BitVec.ofNat 32 x1.val) _ _).toInt = dx at px ⊢
  show Ideal.div 1 _ = _
  have hy1 : (1 : ℝ) ≤ (dy : ℝ) := by exact_mod_cast py
  have hx1 : (1 : ℝ) ≤ (dx : ℝ) := by exact_mod_cast px
  rw [← EReal.coe_mul, Ideal.div_coe (by positivity), one_mul]
  congr 1
  field_simp

end Cert.Roi

end
-- ==== Proof.Weights.lean ====
/- One box's weights in the kernel, entry by entry. -/
module

public import proofs.«01_k».proof.Proof.Body
public import proofs.«01_k».proof.Proof.Axis

@[expose] public section

set_option maxRecDepth 16384

noncomputable section

namespace Cert.KernelIdeal.Value

open Idealize.ShloMosaic Idealize.ShloMosaic.TcCoe Idealize.SL.Sem Idealize.ShloMosaic.Pointwise
open Cert.Roi Cert.KernelIdeal Cert.KernelIdeal.Gen

/-- The quotient of `v` by `d` rounded down, as the body of the kernel computes it. -/
def floorDiv (d v : BitVec 32) : BitVec 32 :=
  Scalar.select
    (IntOp.andi
      (IntOp.cmpi .ne
        (IntOp.subi (BitVec.setWidth 32 (IntOp.cmpi .sgt v 0#32)) (BitVec.setWidth 32 (IntOp.cmpi .slt v 0#32)))
        (Scalar.subi (Scalar.extui (Scalar.cmpi .sgt d 0#32)) (Scalar.extui (Scalar.cmpi .slt d 0#32))))
      (IntOp.cmpi .ne (IntOp.remsi .vector v d) 0#32))
    (IntOp.subi (IntOp.divsi .vector v d) 1#32) (IntOp.divsi .vector v d)

/-- A row `8 * i + j` divided by eight is `i`, and what is left is `j`. -/
theorem row_split : ∀ i j : Fin 7,
    floorDiv 8#32 (BitVec.ofNat 32 (8 * i.val + j.val)) = BitVec.ofNat 32 i.val
    ∧ IntOp.subi (BitVec.ofNat 32 (8 * i.val + j.val)) (IntOp.muli 8#32 (BitVec.ofNat 32 i.val))
      = BitVec.ofNat 32 j.val := by
  decide +kernel

/-- A column `14 * y + x` divided by fourteen is `y`, and what is left is `x`. -/
theorem col_split : ∀ y x : Fin 14,
    floorDiv 14#32 (BitVec.ofNat 32 (14 * y.val + x.val)) = BitVec.ofNat 32 y.val
    ∧ IntOp.subi (BitVec.ofNat 32 (14 * y.val + x.val)) (IntOp.muli 14#32 (BitVec.ofNat 32 y.val))
      = BitVec.ofNat 32 x.val := by
  decide +kernel

/-- Row `8 * i + j`, column `14 * y + x` of a box's weights is the cell of bins `i`, `j` and position `y`, `x`. -/
theorem boxWeights_cell (x1 y1 x2 y2 : BitVec 32) (i j : Fin 7) (y x : Fin 14) :
    boxWeights x1 y1 x2 y2 (ix2 ⟨8 * i.val + j.val, by omega⟩ ⟨14 * y.val + x.val, by omega⟩)
      = cell x1 y1 x2 y2 (BitVec.ofNat 32 i.val) (BitVec.ofNat 32 j.val) (BitVec.ofNat 32 y.val)
          (BitVec.ofNat 32 x.val) := by
  have hi := row_split i j
  have hy := col_split y x
  unfold floorDiv at hi hy
  unfold boxWeights
  unfold_payloads
  pointwise
  simp only [hi.1, hi.2, hy.1, hy.2]
  rfl

/-- Row `8 * i + j`, column `14 * y + x` of a box's weights, for edges among the words `0 … 14`, is the product
    of the two axes' weights. -/
theorem boxWeights_eq (x1 y1 x2 y2 : Fin 15) (i j : Fin 7) (y x : Fin 14) :
    boxWeights (BitVec.ofNat 32 x1.val) (BitVec.ofNat 32 y1.val) (BitVec.ofNat 32 x2.val) (BitVec.ofNat 32 y2.val)
        (ix2 ⟨8 * i.val + j.val, by omega⟩ ⟨14 * y.val + x.val, by omega⟩)
      = ((axisWeight (BitVec.ofNat 32 y1.val) (BitVec.ofNat 32 y2.val) (BitVec.ofNat 32 i.val) (BitVec.ofNat 32 y.val)
          * axisWeight (BitVec.ofNat 32 x1.val) (BitVec.ofNat 32 x2.val) (BitVec.ofNat 32 j.val)
              (BitVec.ofNat 32 x.val) : ℝ) : EReal) := by
  rw [boxWeights_cell, cell_eq]

/-- Row `56 * k + r` of sixteen stacked blocks is row `r` of block `k`. -/
theorem stack_apply (B : Fin 16 → FVec Ideal S56x196 .f32) (k : Fin 16) (r : Fin 56) (q : Fin 196) :
    stack B (ix2 ⟨56 * k.val + r.val, by omega⟩ q) = B k (ix2 r q) := by
  refine concatenate_ofFn_apply (0 : Fin S896x196.rank) B concatenates_S56x196_S56x196_S56x196_S56x196_S56x196_S56x196_S56x196_S56x196_S56x196_S56x196_S56x196_S56x196_S56x196_S56x196_S56x196_S56x196_S896x196_d0
    rfl 56 rfl _ k ?_ (ix2 r q) ?_ ?_
  · show (56 * k.val + r.val) / 56 = k.val
    omega
  · show r.val = (56 * k.val + r.val) % 56
    omega
  · intro b hb
    fin_cases b
    · exact absurd rfl hb
    · rfl

/-- Entry `k`, `r`, `c` of what the body stores: the stacked weights' row `56 * k + r` times the image's column `c`. -/
theorem product_apply (w : FVec Ideal S896x196 .f32) (t : FVec Ideal S196x2048 .f32) (k : Fin 16) (r : Fin 56)
    (c : Fin 2048) :
    k0_pay2 w t (ix3 k r c) = ∑ q : Fin 196, w (ix2 ⟨56 * k.val + r.val, by omega⟩ q) * t (ix2 q c) := by
  unfold k0_pay2
  pointwise
  refine Finset.sum_congr rfl fun q _ => ?_
  simp only [Nat.mul_comm k.val 56]

end Cert.KernelIdeal.Value

end
-- ==== Proof.Average.lean ====
/- The average that both programs compute, and that the sum over all positions of an image is the two
   sums one axis after the other. -/
module

public import proofs.«01_k».proof.Proof.Axis
public import proofs.«01_k».proof.Proof.Edges

@[expose] public section

noncomputable section

namespace Cert.Roi

open Idealize.ShloMosaic

/-- The average over bin `i`, `j` of a box `R` (its batch, then left, upper, right and lower coordinate) of one
    channel `T` of the image: first the weighted sum over the rows of each column, then over the columns. -/
def roiAverage (T : Fin 14 → Fin 14 → EReal) (R : Fin 5 → EReal) (i j : Fin 7) : EReal :=
  ∑ x : Fin 14, (∑ y : Fin 14, T y x
      * ((axisWeight (edge Int.floor (R 2)) (edge Int.ceil (R 4)) (BitVec.ofNat 32 i.val) (BitVec.ofNat 32 y.val) : ℝ) : EReal))
    * ((axisWeight (edge Int.floor (R 1)) (edge Int.ceil (R 3)) (BitVec.ofNat 32 j.val) (BitVec.ofNat 32 x.val) : ℝ) : EReal)

/-- A nonnegative number that is not infinite moves out of a sum, whatever the sum's terms. -/
theorem sum_mul_coe (f : Fin 14 → EReal) {w : ℝ} (hw : 0 ≤ w) : (∑ y, f y) * (w : EReal) = ∑ y, f y * (w : EReal) := by
  have h0 : (0 : EReal) ≤ (w : EReal) := by exact_mod_cast hw
  have key : ∀ s : Finset (Fin 14), (∑ y ∈ s, f y) * (w : EReal) = ∑ y ∈ s, f y * (w : EReal) := by
    intro s
    induction s using Finset.induction_on with
    | empty => simp
    | insert a s ha ih =>
      rw [Finset.sum_insert ha, Finset.sum_insert ha, EReal.right_distrib_of_nonneg_of_ne_top h0 (EReal.coe_ne_top w), ih]
  exact key Finset.univ

/-- The sum over all 196 positions of products of the weights with the image is the two sums one axis after
    the other. -/
theorem sum_positions (T : Fin 14 → Fin 14 → EReal) (wy wx : Fin 14 → ℝ) (hx : ∀ x, 0 ≤ wx x) (f : Fin 196 → EReal)
    (hf : ∀ y x : Fin 14, f ⟨14 * y.val + x.val, by omega⟩ = ((wy y * wx x : ℝ) : EReal) * T y x) :
    ∑ q, f q = ∑ x, (∑ y, T y x * (wy y : EReal)) * (wx x : EReal) := by
  have e : ∑ q, f q = ∑ y : Fin 14, ∑ x : Fin 14, f ⟨14 * y.val + x.val, by omega⟩ := by
    rw [← Fintype.sum_prod_type' (f := fun (y x : Fin 14) => f ⟨14 * y.val + x.val, by omega⟩)]
    refine (Fintype.sum_equiv (finProdFinEquiv (m := 14) (n := 14)) _ _ fun p => ?_).symm
    refine congrArg f (Fin.ext ?_)
    show 14 * p.1.val + p.2.val = p.2.val + 14 * p.1.val
    omega
  rw [e, Finset.sum_comm]
  refine Finset.sum_congr rfl fun x _ => ?_
  rw [sum_mul_coe _ (hx x)]
  refine Finset.sum_congr rfl fun y _ => ?_
  rw [hf, EReal.coe_mul, mul_comm _ (T y x), mul_assoc]

end Cert.Roi

end
-- ==== Proof.Value.lean ====
/- The kernel's result array, entry by entry. -/
module

public import proofs.«01_k».proof.Proof.Coords
public import proofs.«01_k».proof.Proof.Weights
public import proofs.«01_k».proof.Proof.Average

@[expose] public section

set_option maxRecDepth 16384

noncomputable section

namespace Cert.KernelIdeal.Value

open Idealize.ShloMosaic Idealize.ShloMosaic.TcCoe Idealize.SL.Sem Idealize.ShloMosaic.Pointwise
open Cert.Roi Cert.KernelIdeal Cert.KernelIdeal.Gen

variable (m : (ℓ : Loc nD τ sig) → Buf (Elt Ideal) ℓ)

/-- Coordinate `k` of box `n`, as the kernel's argument holds it. -/
def roi (n : Fin 512) (k : Fin 5) : EReal :=
  (m ((0 : Dev nD), Proc.tc.devRef main_arg1) : S512x5.Idx → EReal) (ix2 n k)

/-- Channel `c` of the image, as the kernel's argument holds it. -/
def image (c : Fin 2048) (y x : Fin 14) : EReal :=
  (m ((0 : Dev nD), Proc.tc.devRef main_arg0) : S1x2048x14x14.Idx → EReal) (ix4 0 c y x)

/-- Every point's image block is the whole image. -/
theorem image_block (t : Fin (cfgM m (ok m)).N) (a : Fin 2) : (pcfg0.win (adm m (ok m)) 0).index t a = 0 :=
  (by decide +kernel : ∀ (t : Fin grid0.N) (a : Fin 2), cc0_transform_0 (grid0.coords t) a = 0) t a

/-- Point `t`'s block of the result is block `t` of the boxes, and all the rows and channels. -/
theorem result_block (t : Fin (cfgM m (ok m)).N) (a : Fin 3) :
    (pcfg0.win (adm m (ok m)) 1).index t a = (![t.val, 0, 0] : Fin 3 → ℕ) a :=
  (by decide +kernel : ∀ (t : Fin grid0.N) (a : Fin 3), cc0_transform_1 (grid0.coords t) a = (![t.val, 0, 0] : Fin 3 → ℕ) a)
    t a

/-- The staged image holds position `y`, `x` of channel `c` in row `14 * y + x`, column `c`. -/
theorem staged_apply (t : Fin (cfgM m (ok m)).N) (c : Fin 2048) (y x : Fin 14) :
    (iblk m (ok m) 0 0 t : S196x2048.Idx → EReal) (ix2 ⟨14 * y.val + x.val, by omega⟩ c) = image m c y x := by
  unfold iblk
  blk_simp
  refine (?_ : _ = (V m 0 main_v1 : S196x2048.Idx → EReal) (ix2 ⟨14 * y.val + x.val, by omega⟩ c)).trans ?_
  · refine congrArg (V m 0 main_v1 : S196x2048.Idx → EReal) ?_
    blk_ext
    · exact (congrArg (· * 196 + (14 * y.val + x.val)) (image_block m t 0)).trans (by simp)
    · exact (congrArg (· * 2048 + c.val) (image_block m t 1)).trans (by simp)
  · unfold V
    after_reads_at
    have hy : (⟨(14 * y.val + x.val) / 14, by omega⟩ : Fin 14) = y := Fin.ext (by show (14 * y.val + x.val) / 14 = y.val; omega)
    have hx : (⟨(14 * y.val + x.val) % 14, by omega⟩ : Fin 14) = x := Fin.ext (by show (14 * y.val + x.val) % 14 = x.val; omega)
    rw [hy, hx]
    rfl

/-- The weights of box `16 * t + k` at row `8 * i + j`, column `14 * y + x`. -/
theorem weights_apply (t : Fin (cfgM m (ok m)).N) (k : Fin 16) (n : Fin 512) (hn : n.val = 16 * t.val + k.val)
    (i j : Fin 7) (y x : Fin 14) :
    boxWeights (coordWord m t k 0) (coordWord m t k 1) (coordWord m t k 2) (coordWord m t k 3)
        (ix2 ⟨8 * i.val + j.val, by omega⟩ ⟨14 * y.val + x.val, by omega⟩)
      = ((axisWeight (edge Int.floor (roi m n 2)) (edge Int.ceil (roi m n 4)) (BitVec.ofNat 32 i.val)
            (BitVec.ofNat 32 y.val)
          * axisWeight (edge Int.floor (roi m n 1)) (edge Int.ceil (roi m n 3)) (BitVec.ofNat 32 j.val)
              (BitVec.ofNat 32 x.val) : ℝ) : EReal) := by
  rw [coordWord_eq m t k 0 n hn, coordWord_eq m t k 1 n hn, coordWord_eq m t k 2 n hn, coordWord_eq m t k 3 n hn]
  show boxWeights (edge Int.floor (roi m n 1)) (edge Int.floor (roi m n 2)) (edge Int.ceil (roi m n 3))
    (edge Int.ceil (roi m n 4)) _ = _
  obtain ⟨a1, h1⟩ := edge_small Int.floor (roi m n 1)
  obtain ⟨a2, h2⟩ := edge_small Int.floor (roi m n 2)
  obtain ⟨a3, h3⟩ := edge_small Int.ceil (roi m n 3)
  obtain ⟨a4, h4⟩ := edge_small Int.ceil (roi m n 4)
  rw [h1, h2, h3, h4, boxWeights_eq]

/-- What point `t` stores for box `16 * t + k`, bin `i`, `j`, channel `c` is the box's average there. -/
theorem outs_apply (t : Fin (cfgM m (ok m)).N) (k : Fin 16) (n : Fin 512) (hn : n.val = 16 * t.val + k.val)
    (i j : Fin 7) (c : Fin 2048) :
    outsAt0 m (ok m) 0 t (ix3 k ⟨8 * i.val + j.val, by omega⟩ c) = roiAverage (image m c) (roi m n) i j := by
  refine (congrFun (outs_eq m 0 t) _).trans ((product_apply _ _ k _ c).trans ?_)
  unfold roiAverage
  refine sum_positions (image m c) _ _ (fun x => ?_) _ fun y x => ?_
  · obtain ⟨a1, h1⟩ := edge_small Int.floor (roi m n 1)
    obtain ⟨a3, h3⟩ := edge_small Int.ceil (roi m n 3)
    rw [h1, h3]
    exact axisWeight_nonneg a1 a3 j _
  · rw [stack_apply, weights_apply m t k n hn, staged_apply]

/-- The kernel's result array before the host's last operations: box `n`'s rows are those that point `n / 16` stores. -/
def rows : S512x56x2048.Idx → EReal := fun e =>
  outsAt0 m (ok m) 0 ⟨(e 0).val / 16, by have := (e 0).isLt; show _ < 32; change (e 0).val < 512 at this; omega⟩
    (ix3 ⟨(e 0).val % 16, by omega⟩ (e 1) (e 2))

/-- The points' blocks tile the result. -/
theorem result_covers : ((cfgM m (ok m)).win 1).Covers := by
  refine ⟨fun a => ?_, fun β => ⟨⟨(β (0 : Fin 3)).val, ?_⟩, flush0_1 _ _, fun a => ⟨?_, Or.inl ?_⟩⟩⟩
  · revert a
    exact (by decide : ∀ a : Fin 3, 0 < S16x56x2048.size a)
  · exact Nat.lt_of_lt_of_eq (β (0 : Fin 3)).isLt (show (512 + 16 - 1) / 16 = 32 from rfl)
  · refine (result_block m _ a).trans ?_
    have h1 : (β (1 : Fin 3)).val < 1 := Nat.lt_of_lt_of_eq (β (1 : Fin 3)).isLt (show (56 + 56 - 1) / 56 = 1 from rfl)
    have h2 : (β (2 : Fin 3)).val < 1 := Nat.lt_of_lt_of_eq (β (2 : Fin 3)).isLt (show (2048 + 2048 - 1) / 2048 = 1 from rfl)
    match a with
    | ⟨0, _⟩ => rfl
    | ⟨1, _⟩ => exact (Nat.lt_one_iff.1 h1).symm
    | ⟨2, _⟩ => exact (Nat.lt_one_iff.1 h2).symm
    | ⟨k + 3, h⟩ => exact absurd h (Nat.not_lt.2 (Nat.le_add_left 3 k))
  · rfl

/-- Row `16 * t + k` of the result is row `k` of what point `t` stores. -/
theorem rows_of (e : S512x56x2048.Idx) (t : Fin (cfgM m (ok m)).N) (y : S16x56x2048.Idx)
    (h0 : (e 0).val = t.val * 16 + (y 0).val) (h1 : (e 1).val = (y 1).val) (h2 : (e 2).val = (y 2).val) :
    rows m e = outsAt0 m (ok m) 0 t y := by
  have hy : (y 0).val < 16 := (y 0).isLt
  unfold rows
  refine congr (congrArg (outsAt0 m (ok m) 0) (Fin.ext ?_)) (funext fun a => Fin.ext ?_)
  · show (e 0).val / 16 = t.val
    omega
  · match a with
    | ⟨0, _⟩ => exact (by omega : (e 0).val % 16 = (y 0).val)
    | ⟨1, _⟩ => exact h1
    | ⟨2, _⟩ => exact h2
    | ⟨k + 3, h⟩ => exact absurd h (Nat.not_lt.2 (Nat.le_add_left 3 k))

/-- The array that the grid leaves is `rows`. -/
theorem array_eq : (dats m (ok m) 0 0).arrAt 1 (cfgM m (ok m)).N = rows m := by
  refine (dats m (ok m) 0 0).arrAt_eq_of_covers 1 _ (result_covers m) fun t hf y => ?_
  rw [after0_1]
  blk_simp
  refine (rows_of m _ t y ?_ ?_ ?_).symm
  · blk_simp
    exact congrArg (· * 16 + (y (0 : Fin 3)).val) (result_block m t 0)
  · blk_simp
    exact (congrArg (· * 56 + (y (1 : Fin 3)).val) (result_block m t 1)).trans (by simp)
  · blk_simp
    exact (congrArg (· * 2048 + (y (2 : Fin 3)).val) (result_block m t 2)).trans (by simp)

/-- The kernel's result: every box's average, at every channel and bin. -/
def result : S512x2048x7x7.Idx → EReal := fun e => roiAverage (image m (e 1)) (roi m (e 0)) (e 2) (e 3)

/-- The host's last operations take the seven bins of each axis out of `rows` and put the channel in front. -/
theorem tail_apply :
    transpose S512x2048x7x7 [0, 3, 1, 2]
      (extractStridedSlice S512x7x7x2048 ![0, 0, 0, 0]
        (shapeCast S512x7x8x2048 (rows m) shapeCasts_S512x56x2048_S512x7x8x2048)
        slices_S512x7x8x2048_S512x7x7x2048_0_0_0_0)
      transposes_S512x7x7x2048_S512x2048x7x7_0_3_1_2 = result m := by
  funext e
  idx_vars e
  pointwise
  refine (rows_of m _ ⟨e0.val / 16, by show _ < 32; omega⟩
    (ix3 ⟨e0.val % 16, by omega⟩ ⟨8 * e2.val + e3.val, by omega⟩ e1) ?_ ?_ rfl).trans
    (outs_apply m _ ⟨e0.val % 16, by omega⟩ e0 ?_ e2 e3 e1)
  · show e0.val = e0.val / 16 * 16 + e0.val % 16
    omega
  · show e2.val * 8 + e3.val = 8 * e2.val + e3.val
    omega
  · show e0.val = 16 * (e0.val / 16) + e0.val % 16
    omega

end Cert.KernelIdeal.Value

end
-- ==== Proof.Run.lean ====
/- The kernel program from start to end: what it returns, and its arguments unchanged. -/
module

public import proofs.«01_k».proof.Proof.Value
public import Idealize.ShloMosaic.Lib.Claim
@[expose] public section
set_option maxRecDepth 16384
noncomputable section

namespace Cert.KernelIdeal.Value

open Idealize.ShloMosaic Idealize.ShloMosaic.TcCoe Idealize.SL.Sem Idealize.ShloMosaic.Pointwise
open Cert.Roi Cert.KernelIdeal Cert.KernelIdeal.Gen

variable (m : (ℓ : Loc nD τ sig) → Buf (Elt Ideal) ℓ) (ρ : Dev nD → PrngReg)

/-- The host's last operations leave `result` in the buffer the program returns. -/
theorem tail_result (c : Dev nD) :
    Pipeline.afterTail pcfgs (fun _ => adm m (ok m)) (dats m (ok m)) 0 (V0 m) [hostOps1] c main_v31 = result m := by
  obtain rfl : c = 0 := Subsingleton.elim _ _
  have h : (Pipeline.withArrays (Pipeline.pin pcfgs (fun _ => adm m (ok m)) 0).spec 0 (V0 m 0)
      (fun w => (dats m (ok m) 0 0).arrAt w (Pipeline.pin pcfgs (fun _ => adm m (ok m)) 0).N)
      (Proc.tc.devRef main_v28) : S512x56x2048.Idx → EReal) = rows m :=
    (Pipeline.withArrays_arr spec0 (by decide) 0 (V0 m 0)
      (fun w => (dats m (ok m) 0 0).arrAt w (cfgM m (ok m)).N) 1).trans (array_eq m)
  unfold Pipeline.afterTail
  simp only [hostOps1, List.flatten_cons, List.flatten_nil, List.append_nil]
  after_results
  rw [h]
  exact tail_apply m

/-- The program ends with `result` in the buffer it returns and with its arguments as launched. -/
theorem run : θ_run defs (onTc (τ := τ) (main (F := Ideal))) ⟨m, fun _ => 0, ρ⟩ (fun r => ∀ c : Dev nD,
      r.2.mem ((c.tc : Thread nD τ).loc main_v31) = result m
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v31 (by decide : main_v31 ∈ Pipeline.restRefs sig spec0)).trans (tail_result m c),
      ((h c).2 main_arg0 (by decide : main_arg0 ∈ Pipeline.restRefs sig spec0)).trans
        (W_main_arg0 m (ok m) (dats m (ok m)) c),
      ((h c).2 main_arg1 (by decide : main_arg1 ∈ Pipeline.restRefs sig spec0)).trans
        (W_main_arg1 m (ok m) (dats m (ok m)) c)⟩) (run_main m ρ (ok m))

end Cert.KernelIdeal.Value
end
-- ==== Proof.Reference.lean ====
/- The reference's result, entry by entry: each axis's weights, and the two contractions. -/
module

public import proofs.«01_k».proof.Proof.Gen.ReferenceIdeal.Run
public import proofs.«01_k».proof.Proof.Average
public import Idealize.ShloMosaic.Lib.Pipeline.ValueKit
public import Idealize.ShloMosaic.Lib.StableHlo.ReadAt

@[expose] public section

set_option maxRecDepth 16384

noncomputable section

namespace Cert.ReferenceIdeal.Value

open Idealize.ShloMosaic Idealize.ShloMosaic.TcCoe Idealize.SL.Sem Idealize.ShloMosaic.Pointwise
open Cert.Roi Cert.ReferenceIdeal Cert.ReferenceIdeal.Gen

variable (V0 : Valuation τ sig (Elt Ideal))

/-- Coordinate `k` of box `n`, as the reference's argument holds it. -/
def roi (n : Fin 512) (k : Fin 5) : EReal := (V0 (Proc.devRef .tc main_arg1) : S512x5.Idx → EReal) (ix2 n k)

/-- Channel `c` of the image, as the reference's argument holds it. -/
def image (c : Fin 2048) (y x : Fin 14) : EReal :=
  (V0 (Proc.devRef .tc main_arg0) : S1x2048x14x14.Idx → EReal) (ix4 0 c y x)

/-- The words of the left edges. -/
theorem left_edge (n : Fin 512) :
    (res_main_v7 V0 : S512.Idx → BitVec 32) (ix1 n) = edge Int.floor (roi V0 n 1) := by
  unfold res_main_v7 res_main_v2
  clean_types
  pointwise
  rfl

/-- The words of the upper edges. -/
theorem upper_edge (n : Fin 512) :
    (res_main_v12 V0 : S512.Idx → BitVec 32) (ix1 n) = edge Int.floor (roi V0 n 2) := by
  unfold res_main_v12 res_main_v2
  clean_types
  pointwise
  rfl

/-- The boxes' heights. -/
theorem height (n : Fin 512) : (res_main_v24 V0 : S512.Idx → BitVec 32) (ix1 n)
    = Scalar.subi (edge Int.ceil (roi V0 n 4)) (edge Int.floor (roi V0 n 2)) := by
  unfold res_main_v24 res_main_v2
  clean_types
  pointwise
  rw [upper_edge]
  rfl

/-- The boxes' widths. -/
theorem width (n : Fin 512) : (res_main_v70 V0 : S512.Idx → BitVec 32) (ix1 n)
    = Scalar.subi (edge Int.ceil (roi V0 n 3)) (edge Int.floor (roi V0 n 1)) := by
  unfold res_main_v70 res_main_v2
  clean_types
  pointwise
  rw [left_edge]
  rfl

/-- The products of the bins' numbers with the heights. -/
theorem row_product (n : Fin 512) (i : Fin 7) : (res_main_v29 V0 : S512x7.Idx → BitVec 32) (ix2 n i)
    = IntOp.muli (BitVec.ofNat 32 i.val) ((res_main_v24 V0 : S512.Idx → BitVec 32) (ix1 n)) := by
  unfold res_main_v29 res_main_v23
  clean_types
  pointwise

/-- The first rows of the bins. -/
theorem row_lo (n : Fin 512) (i : Fin 7) : (res_main_v33 V0 : S512x7.Idx → BitVec 32) (ix2 n i)
    = binLo (edge Int.floor (roi V0 n 2)) (Scalar.subi (edge Int.ceil (roi V0 n 4)) (edge Int.floor (roi V0 n 2)))
        (BitVec.ofNat 32 i.val) := by
  unfold res_main_v33 res_main_call4_v2 res_main_call4_v0
  clean_types
  pointwise
  rw [row_product, height, upper_edge]
  rfl

/-- The rows after the bins' last ones, before the division. -/
theorem row_product_next (n : Fin 512) (i : Fin 7) : (res_main_v42 V0 : S512x7.Idx → BitVec 32) (ix2 n i)
    = IntOp.addi (IntOp.muli (IntOp.addi (BitVec.ofNat 32 i.val) 1#32) ((res_main_v24 V0 : S512.Idx → BitVec 32) (ix1 n)))
        6#32 := by
  unfold res_main_v42 res_main_v23
  clean_types
  pointwise

/-- The rows after the bins' last ones. -/
theorem row_hi (n : Fin 512) (i : Fin 7) : (res_main_v46 V0 : S512x7.Idx → BitVec 32) (ix2 n i)
    = binHi (edge Int.floor (roi V0 n 2)) (Scalar.subi (edge Int.ceil (roi V0 n 4)) (edge Int.floor (roi V0 n 2)))
        (BitVec.ofNat 32 i.val) := by
  unfold res_main_v46 res_main_call5_v2 res_main_call5_v0
  clean_types
  pointwise
  rw [row_product_next, height, upper_edge]
  rfl

/-- The products of the bins' numbers with the widths. -/
theorem col_product (n : Fin 512) (i : Fin 7) : (res_main_v75 V0 : S512x7.Idx → BitVec 32) (ix2 n i)
    = IntOp.muli (BitVec.ofNat 32 i.val) ((res_main_v70 V0 : S512.Idx → BitVec 32) (ix1 n)) := by
  unfold res_main_v75 res_main_v69
  clean_types
  pointwise

/-- The first columns of the bins. -/
theorem col_lo (n : Fin 512) (i : Fin 7) : (res_main_v79 V0 : S512x7.Idx → BitVec 32) (ix2 n i)
    = binLo (edge Int.floor (roi V0 n 1)) (Scalar.subi (edge Int.ceil (roi V0 n 3)) (edge Int.floor (roi V0 n 1)))
        (BitVec.ofNat 32 i.val) := by
  unfold res_main_v79 res_main_call6_v2 res_main_call6_v0
  clean_types
  pointwise
  rw [col_product, width, left_edge]
  rfl

/-- The columns after the bins' last ones, before the division. -/
theorem col_product_next (n : Fin 512) (i : Fin 7) : (res_main_v88 V0 : S512x7.Idx → BitVec 32) (ix2 n i)
    = IntOp.addi (IntOp.muli (IntOp.addi (BitVec.ofNat 32 i.val) 1#32) ((res_main_v70 V0 : S512.Idx → BitVec 32) (ix1 n)))
        6#32 := by
  unfold res_main_v88 res_main_v69
  clean_types
  pointwise

/-- The columns after the bins' last ones. -/
theorem col_hi (n : Fin 512) (i : Fin 7) : (res_main_v92 V0 : S512x7.Idx → BitVec 32) (ix2 n i)
    = binHi (edge Int.floor (roi V0 n 1)) (Scalar.subi (edge Int.ceil (roi V0 n 3)) (edge Int.floor (roi V0 n 1)))
        (BitVec.ofNat 32 i.val) := by
  unfold res_main_v92 res_main_call7_v2 res_main_call7_v0
  clean_types
  pointwise
  rw [col_product_next, width, left_edge]
  rfl

/-- One axis's weights from the bins' first positions `lo` and the positions `hi` after their last ones. -/
def binWeights (pos : S14.Idx → BitVec 32) (lo hi : S512x7.Idx → BitVec 32) : FVec Ideal S512x7x14 .f32 :=
  Host.divf
    (uitofp .f32 (andi
      (cmpi .sge
        (broadcastInDim S512x7x14 ![0, 1, 2] bcast_S1x1x14_S512x7x14_0_1_2
          (broadcastInDim S1x1x14 ![1, 2] bcast_S1x14_S1x1x14_1_2 (broadcastInDim S1x14 ![1] bcast_S14_S1x14_1 pos)))
        (broadcastInDim S512x7x14 ![0, 1, 2] bcast_S512x7x1_S512x7x14_0_1_2
          (broadcastInDim S512x7x1 ![0, 1] bcast_S512x7_S512x7x1_0_1 lo)))
      (cmpi .slt
        (broadcastInDim S512x7x14 ![0, 1, 2] bcast_S1x1x14_S512x7x14_0_1_2
          (broadcastInDim S1x1x14 ![1, 2] bcast_S1x14_S1x1x14_1_2 (broadcastInDim S1x14 ![1] bcast_S14_S1x14_1 pos)))
        (broadcastInDim S512x7x14 ![0, 1, 2] bcast_S512x7x1_S512x7x14_0_1_2
          (broadcastInDim S512x7x1 ![0, 1] bcast_S512x7_S512x7x1_0_1 hi)))))
    (broadcastInDim S512x7x14 ![0, 1, 2] bcast_S512x7x1_S512x7x14_0_1_2
      (broadcastInDim S512x7x1 ![0, 1] bcast_S512x7_S512x7x1_0_1
        (sitofp .f32 (maxsi (subi hi lo) (broadcastInDim S512x7 ![] bcast_S_S512x7 (constantI S_ 32 1#32))))))

/-- One axis's weight of position `p` in bin `i`, where the bins of box `n` are those of the edges `a`, `b`. -/
theorem binWeights_apply (pos : S14.Idx → BitVec 32) (lo hi : S512x7.Idx → BitVec 32) (n : Fin 512) (i : Fin 7)
    (p : Fin 14) (rl rh : ℝ → ℤ) (u v : EReal) (hp : pos (ix1 p) = BitVec.ofNat 32 p.val)
    (hl : lo (ix2 n i) = binLo (edge rl u) (Scalar.subi (edge rh v) (edge rl u)) (BitVec.ofNat 32 i.val))
    (hh : hi (ix2 n i) = binHi (edge rl u) (Scalar.subi (edge rh v) (edge rl u)) (BitVec.ofNat 32 i.val)) :
    binWeights pos lo hi (ix3 n i p)
      = ((axisWeight (edge rl u) (edge rh v) (BitVec.ofNat 32 i.val) (BitVec.ofNat 32 p.val) : ℝ) : EReal) := by
  obtain ⟨a, ha⟩ := edge_small rl u
  obtain ⟨b, hb⟩ := edge_small rh v
  rw [ha, hb] at hl hh ⊢
  rw [← div_eq_axisWeight]
  unfold binWeights
  pointwise
  rw [hp, hl, hh]
  rfl

/-- The result at box `n`, channel `c`, bin `i`, `j`, from the image and the two axes' weights. -/
theorem contract_apply (t : FVec Ideal S1x2048x14x14 .f32) (wy wx : FVec Ideal S512x7x14 .f32) (n : Fin 512)
    (c : Fin 2048) (i j : Fin 7) :
    (shapeCast S512x2048x7x7
      (Host.dotGeneral dot_S1x2048x14x512x7_S512x7x14_S512x1x2048x7x7_2_2_014_1_3_0 none
        (Host.dotGeneral dot_S1x2048x14x14_S512x7x14_S1x2048x14x512x7_2_2_013_01_n_n none t wy) wx)
      shapeCasts_S512x1x2048x7x7_S512x2048x7x7 : S512x2048x7x7.Idx → EReal) (ix4 n c i j)
      = ∑ x : Fin 14, (∑ y : Fin 14, t (ix4 0 c y x) * wy (ix3 n i y)) * wx (ix3 n j x) := by
  pointwise

/-- The reference's result at box `n`, channel `c`, bin `i`, `j` is the box's average there. -/
theorem reference_apply (n : Fin 512) (c : Fin 2048) (i j : Fin 7) :
    (shapeCast S512x2048x7x7
      (Host.dotGeneral dot_S1x2048x14x512x7_S512x7x14_S512x1x2048x7x7_2_2_014_1_3_0 none
        (Host.dotGeneral dot_S1x2048x14x14_S512x7x14_S1x2048x14x512x7_2_2_013_01_n_n none
          (φ₁ := .f32) (V0 (Proc.devRef .tc main_arg0))
          (binWeights (res_main_v47 V0) (res_main_v33 V0) (res_main_v46 V0)))
        (binWeights (res_main_v93 V0) (res_main_v79 V0) (res_main_v92 V0)))
      shapeCasts_S512x1x2048x7x7_S512x2048x7x7 : S512x2048x7x7.Idx → EReal) (ix4 n c i j)
      = roiAverage (image V0 c) (roi V0 n) i j := by
  rw [contract_apply]
  unfold roiAverage
  refine Finset.sum_congr rfl fun x _ => ?_
  rw [binWeights_apply _ _ _ n j x _ _ _ _ rfl (col_lo V0 n j) (col_hi V0 n j)]
  refine congrArg (· * _) (Finset.sum_congr rfl fun y _ => ?_)
  rw [binWeights_apply _ _ _ n i y _ _ _ _ rfl (row_lo V0 n i) (row_hi V0 n i)]
  rfl

end Cert.ReferenceIdeal.Value

end
-- ==== Proof.lean ====
/- The certificate's five claims, assembled.
   The kernel and its idealization end without fault by the generated frames, whose side condition is trivially true.
   The reference is a host program: its run gives its arguments, and it declares no semaphore.
   The two ideal programs return the same array, since each entry of both is `Cert.Roi.roiAverage`, the sum over the image
   of one channel's pixels, each weighted by a row weight and a column weight of the box's bin: `Proof/Run.lean` for the
   kernel, `Proof/Reference.lean` for the reference. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Reference
public import Idealize.ShloMosaic.Lib.Claim
public import Idealize.ShloMosaic.Adequacy
public import Idealize.ShloMosaic.Init

@[expose] public section

noncomputable section

namespace Cert.Proof

open Idealize.ShloMosaic Idealize.ShloMosaic.TcCoe Idealize.ShloMosaic.StableHlo Idealize.ShloMosaic.Pointwise
open Idealize.SL.Sem Cert.Kernel

/-- From arguments that agree, the reference's average over each bin of each box is the kernel's result. -/
theorem average_eq_result (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ)
    (hagree : ∀ c : Dev KernelIdeal.nD,
      m' ((c.tc : Thread ReferenceIdeal.nD ReferenceIdeal.τ).loc ReferenceIdeal.main_arg0)
          = m ((c.tc : Thread KernelIdeal.nD KernelIdeal.τ).loc KernelIdeal.main_arg0)
        ∧ m' ((c.tc : Thread ReferenceIdeal.nD ReferenceIdeal.τ).loc ReferenceIdeal.main_arg1)
          = m ((c.tc : Thread KernelIdeal.nD KernelIdeal.τ).loc KernelIdeal.main_arg1))
    (c : Dev ReferenceIdeal.nD) (n : Fin 512) (ch : Fin 2048) (i j : Fin 7) :
    Cert.Roi.roiAverage (ReferenceIdeal.Value.image (launchContents m' c) ch)
        (ReferenceIdeal.Value.roi (launchContents m' c) n) i j
      = KernelIdeal.Value.result m (ix4 n ch i j) := by
  obtain rfl : c = 0 := Subsingleton.elim _ _
  have himage : ReferenceIdeal.Value.image (launchContents m' 0) ch = KernelIdeal.Value.image m ch :=
    funext fun y => funext fun x => congrFun (hagree 0).1 (ix4 0 ch y x)
  have hroi : ReferenceIdeal.Value.roi (launchContents m' 0) n = KernelIdeal.Value.roi m n :=
    funext fun k => congrFun (hagree 0).2 (ix2 n k)
  rw [himage, hroi]
  rfl

/-- All five claims: the three programs end without fault, their arguments unchanged and every counter at zero; the
    ideal program is the kernel over the extended reals; and the two ideal programs return the same array. -/
theorem claim : Cert.Claim := ⟨Cert.Kernel.Gen.facts, Cert.KernelIdeal.Gen.facts, Cert.ReferenceIdeal.Gen.facts, by
  exact ⟨fun m ρ _ => Cert.Kernel.Gen.frame m ρ (by unfold Cert.Kernel.Gen.Ok Cert.Kernel.ok0; trivial),
    fun m ρ _ => Cert.KernelIdeal.Gen.frame m ρ (Cert.KernelIdeal.Value.ok m),
    fun m ρ _ => (θ_run Cert.ReferenceIdeal.defs _ _).mono
      (fun r h => ⟨fun c => (h c).2, sem_eq_zero_of_no_sems (by decide) r.2⟩) (Cert.ReferenceIdeal.Value.run m ρ),
    trivial,
    by
      pair_intro
      case refine_1 => exact fun c => Cert.KernelIdeal.Value.result m
      · run_from Cert.KernelIdeal.Value.run m g
      · run_from Cert.ReferenceIdeal.Value.run m' g'
        rw [← (hagree c).1]
        funext e
        idx_vars e
        exact (Cert.ReferenceIdeal.Value.reference_apply (launchContents m' c) _ _ _ _).trans
          (average_eq_result m m' hagree c _ _ _ _)⟩⟩

end Cert.Proof

end
